-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_within_clip_ClippedIdeal [hPre_within_clip_ClippedIdeal : Cert.Pre_within_clip_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_clip_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_within_clip_ClippedIdeal [hClippedIdeal : Cert.ClippedIdeal.Facts] [hPre_within_clip_ClippedIdeal : Cert.Pre_within_clip_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_clip_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_within_clip_KernelIdeal [hKernelIdeal : Cert.KernelIdeal.Facts] [hClippedIdeal : Cert.ClippedIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v6) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_within_clip_KernelIdeal : Cert.Pre_within_clip_KernelIdeal.Facts) (hPre_within_clip_ClippedIdeal : Cert.Pre_within_clip_ClippedIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ClippedIdeal (hClippedIdeal := hClippedIdeal)
    ∧ quiescent_ClippedIdeal_pre_within_clip_ClippedIdeal (hClippedIdeal := hClippedIdeal) (hPre_within_clip_ClippedIdeal := hPre_within_clip_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_within_clip_KernelIdeal (hKernelIdeal := hKernelIdeal) (hClippedIdeal := hClippedIdeal) (hPre_within_clip_KernelIdeal := hPre_within_clip_KernelIdeal)
-- ==== Pre_within_clip_ClippedIdeal.lean ====
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩

class Facts : Prop where
  reducesTo_S2048x2048_S2048_d1 : S2048x2048.ReducesTo [1] S2048
  h_S_ : 0 < S_.numel
  reducesTo_S2048x2048_S2048_d0 : S2048x2048.ReducesTo [0] S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)

variable [Facts]

def fn {F : FTy → Type} [FloatOps F] (main_arg0 : FVec F S2048x2048 .f32) (main_arg1 : FVec F S2048x2048 .f32) : IVec S2048x2048 1 :=
  let main_v0 : FVec F S2048x2048 .f32 := mulf main_arg0 main_arg0
  let main_cst : FVec F S_ .f32 := constant S_ .f32 0x00000000#32
  let main_v1 : FVec F S2048 .f32 := (fun x v => Host.reduceAdd x v reducesTo_S2048x2048_S2048_d1 h_S_) main_v0 main_cst
  let main_v2 : FVec F S2048x2048 .f32 := mulf main_arg1 main_arg1
  let main_cst_0 : FVec F S_ .f32 := constant S_ .f32 0x00000000#32
  let main_v3 : FVec F S2048 .f32 := (fun x v => Host.reduceAdd x v reducesTo_S2048x2048_S2048_d0 h_S_) main_v2 main_cst_0
  let main_v4 : FVec F S2048x1 .f32 := broadcastInDim S2048x1 ![0] bcast_S2048_S2048x1_0 main_v1
  let main_v5 : FVec F S1x2048 .f32 := broadcastInDim S1x2048 ![1] bcast_S2048_S1x2048_1 main_v3
  let main_v6 : FVec F S2048x2048 .f32 := broadcastInDim S2048x2048 ![0, 1] bcast_S2048x1_S2048x2048_0_1 main_v4
  let main_v7 : FVec F S2048x2048 .f32 := broadcastInDim S2048x2048 ![0, 1] bcast_S1x2048_S2048x2048_0_1 main_v5
  let main_v8 : FVec F S2048x2048 .f32 := mulf main_v6 main_v7
  let main_cst_1 : FVec F S_ .f32 := constant S_ .f32 0x44610000#32
  let main_v9 : FVec F S2048x2048 .f32 := broadcastInDim S2048x2048 ![] bcast_S_S2048x2048 main_cst_1
  let main_v10 : IVec S2048x2048 1 := cmpf .ole main_v8 main_v9
  main_v10
-- ==== Pre_within_clip_KernelIdeal.lean ====
abbrev S2048x512 : Shape := ⟨2, ![2048, 512]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩

class Facts : Prop where
  reducesTo_S2048x512_S2048_d1 : S2048x512.ReducesTo [1] S2048
  h_S_ : 0 < S_.numel
  reducesTo_S2048x2048_S2048_d0 : S2048x2048.ReducesTo [0] S2048
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)

variable [Facts]

def fn {F : FTy → Type} [FloatOps F] (main_arg0 : FVec F S2048x512 .f32) (main_arg1 : FVec F S2048x2048 .f32) : IVec S2048x2048 1 :=
  let main_v0 : FVec F S2048x512 .f32 := mulf main_arg0 main_arg0
  let main_cst : FVec F S_ .f32 := constant S_ .f32 0x00000000#32
  let main_v1 : FVec F S2048 .f32 := (fun x v => Host.reduceAdd x v reducesTo_S2048x512_S2048_d1 h_S_) main_v0 main_cst
  let main_v2 : FVec F S2048x2048 .f32 := mulf main_arg1 main_arg1
  let main_cst_0 : FVec F S_ .f32 := constant S_ .f32 0x00000000#32
  let main_v3 : FVec F S2048 .f32 := (fun x v => Host.reduceAdd x v reducesTo_S2048x2048_S2048_d0 h_S_) main_v2 main_cst_0
  let main_v4 : FVec F S2048x1 .f32 := broadcastInDim S2048x1 ![0] bcast_S2048_S2048x1_0 main_v1
  let main_v5 : FVec F S1x2048 .f32 := broadcastInDim S1x2048 ![1] bcast_S2048_S1x2048_1 main_v3
  let main_v6 : FVec F S2048x2048 .f32 := broadcastInDim S2048x2048 ![0, 1] bcast_S2048x1_S2048x2048_0_1 main_v4
  let main_v7 : FVec F S2048x2048 .f32 := broadcastInDim S2048x2048 ![0, 1] bcast_S1x2048_S2048x2048_0_1 main_v5
  let main_v8 : FVec F S2048x2048 .f32 := mulf main_v6 main_v7
  let main_cst_1 : FVec F S_ .f32 := constant S_ .f32 0x44610000#32
  let main_v9 : FVec F S2048x2048 .f32 := broadcastInDim S2048x2048 ![] bcast_S_S2048x2048 main_cst_1
  let main_v10 : IVec S2048x2048 1 := cmpf .ole main_v8 main_v9
  main_v10
-- ==== Kernel.lean ====
abbrev S2048x512 : Shape := ⟨2, ![2048, 512]⟩
abbrev S2048x2048 : Shape := ⟨2, ![2048, 2048]⟩
abbrev S512x2048 : Shape := ⟨2, ![512, 2048]⟩
abbrev S3x512x512 : Shape := ⟨3, ![3, 512, 512]⟩
abbrev S3 : Shape := ⟨1, ![3]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .local _ .vmem, ⟨0, _⟩ => ⟨S2048x512, .f32⟩
  | .local _ .vmem, ⟨1, _⟩ => ⟨S2048x2048, .f32⟩
  | .local _ .vmem, ⟨2, _⟩ => ⟨S512x2048, .f32⟩
  | .local _ .vmem, ⟨3, _⟩ => ⟨S3x512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32 : BitVec 32 := 512#32
  let v54 : BitVec 32 := Scalar.muli v53 c512_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_43 : BitVec 32 := 2#32
  let v64 : BitVec 32 := Scalar.addi v2 c2_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v85 : BitVec 32 := Scalar.addi v2 c3_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_75 : BitVec 32 := 512#32
  let v106 : BitVec 32 := Scalar.muli v2 c512_i32_75
  let v107 : Index := Scalar.indexCast v106
  let c0 : Index := 0#32
  ![v107.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_76 : BitVec 32 := 512#32
  let v110 : BitVec 32 := Scalar.muli v2 c512_i32_76
  let v111 : Index := Scalar.indexCast v110
  let c0_77 : Index := 0#32
  ![v111.toNat, 0]
def k0_off4 (d0 : Dev nD) (c1_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v122 : BitVec 32 := Scalar.subi v2 c1_i32_86
  let c4_i32_87 : BitVec 32 := 4#32
  let c0_i32_88 : BitVec 32 := 0#32
  let v123 : BitVec 1 := Scalar.cmpi .eq c4_i32_87 c0_i32_88
  let c1_i32_89 : BitVec 32 := 1#32
  let v124 : BitVec 32 := Scalar.select v123 c1_i32_89 c4_i32_87
  let v125 : BitVec 32 := Scalar.remsi v122 v124
  let c0_i32_91 : BitVec 32 := 0#32
  let v127 : BitVec 1 := Scalar.cmpi .slt v125 c0_i32_91
  let c0_i32_92 : BitVec 32 := 0#32
  let v128 : BitVec 1 := Scalar.cmpi .slt v124 c0_i32_92
  let v129 : BitVec 1 := Scalar.xori v127 v128
  let c0_i32_90 : BitVec 32 := 0#32
  let v126 : BitVec 1 := Scalar.cmpi .ne v125 c0_i32_90
  let v130 : BitVec 1 := Scalar.andi v129 v126
  let v131 : BitVec 32 := Scalar.addi v125 v124
  let v132 : BitVec 32 := Scalar.select v130 v131 v125
  let c512_i32_96 : BitVec 32 := 512#32
  let v135 : BitVec 32 := Scalar.muli v132 c512_i32_96
  let v136 : Index := Scalar.indexCast v135
  let c0_97 : Index := 0#32
  ![v136.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Exchange.lean ====
/-
# The exchange between the four devices: cells, contents and schedule

Each device of the ring `0, 1, 2, 3` holds the rows of `x` meant for every device, and sends three row blocks away:
the block of device `c + (k+1)` goes into slot `k` of that device's receive buffer, for `k = 0, 1, 2`. This module
fixes what the protocol is about, before any program is run:

* `ahead k c` and `back k c`, the devices `k + 1` places further along the ring and `k + 1` places before;
* the memory the protocol speaks of: the block of rows `xSrc c k` that leaves device `c`, the slot `slotM k` where it lands;
* the semaphore cells: a device's barrier cell, and its send and receive cells numbered by `k`;
* the schedule `sched`: who pays which cell, how much, and which memory changes hands with the payment.

A barrier cell is paid one unit by each of the three other devices. The device `k + 1` places ahead pays duty `k`, and
with it lends its own slot `k`: that is the slot this device's transfer number `k` fills. A receive cell is paid by the
transfer that fills the slot, with the filled slot; a send cell by the transfer that leaves, with the rows it read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

/-! ## The ghost state: the pipeline's part beside the exchange's -/

/-- The exchange's rounds: at most three duties per cell, so duties are named by `Fin 3`. -/
abbrev XU : Type := URounds (GSem nD τ sig) (Fin 3)
abbrev GU : Type := UR sig nD τ × XU

local notation "𝕄" => MT nD τ sig Unit (Elt F) ℕ GU ℕ

abbrev EPipe : Emb (UR sig nD τ) (MT nD τ sig Unit (Elt F) ℕ GU ℕ) := embL
abbrev EX : Emb XU (MT nD τ sig Unit (Elt F) ℕ GU ℕ) := embR

variable (m : (ℓ : Loc nD τ sig) → Buf (Elt F) ℓ) (ρ : Dev nD → PrngReg)

/-- The state a run starts from: any memory, every counter at zero, any generator registers. -/
def start₀ : MemSt nD τ sig (Elt F) := ⟨m, fun _ => 0, ρ⟩

/-! ## The ring -/

set_option backward.proofsInPublic true in
/-- The device `k + 1` places further along. -/
def ahead (k : Fin 3) (c : Dev nD) : Dev nD := ⟨(c.val + (k.val + 1)) % 4, Nat.mod_lt _ (by decide)⟩
set_option backward.proofsInPublic true in
/-- The device `k + 1` places before. -/
def back (k : Fin 3) (c : Dev nD) : Dev nD := ⟨(c.val + (3 - k.val)) % 4, Nat.mod_lt _ (by decide)⟩
/-- Going `k + 1` places ahead and `opp k + 1` more is going all the way round. -/
def opp (k : Fin 3) : Fin 3 := ⟨2 - k.val, by omega⟩

theorem back_ahead (k : Fin 3) (c : Dev nD) : back k (ahead k c) = c := by revert k c; decide
theorem ahead_back (k : Fin 3) (c : Dev nD) : ahead k (back k c) = c := by revert k c; decide
theorem ahead_opp (k : Fin 3) (c : Dev nD) : ahead (opp k) (ahead k c) = c := by revert k c; decide
theorem ahead_ahead_opp (k : Fin 3) (c : Dev nD) : ahead k (ahead (opp k) c) = c := by revert k c; decide
theorem ahead_inj (k k' : Fin 3) (c : Dev nD) (h : ahead k c = ahead k' c) : k = k' := by revert k k' c; decide

/-- Going `k + 1` places ahead, as a permutation of the devices. -/
def turn (k : Fin 3) : Dev nD ≃ Dev nD := ⟨ahead k, back k, back_ahead k, ahead_back k⟩

/-- The devices the kernel's own arithmetic names: the three it signals, and the three it sends to. -/
theorem sig0_eq (c : Dev nD) (h : k0_dev1 c < nD) : (⟨k0_dev1 c, h⟩ : Dev nD) = ahead 0 c :=
  Fin.ext ((by decide +kernel : ∀ d : Dev nD, k0_dev1 d = (ahead 0 d).val) c)
theorem sig1_eq (c : Dev nD) (h : k0_dev2 c < nD) : (⟨k0_dev2 c, h⟩ : Dev nD) = ahead 1 c :=
  Fin.ext ((by decide +kernel : ∀ d : Dev nD, k0_dev2 d = (ahead 1 d).val) c)
theorem sig2_eq (c : Dev nD) (h : k0_dev3 c < nD) : (⟨k0_dev3 c, h⟩ : Dev nD) = ahead 2 c :=
  Fin.ext ((by decide +kernel : ∀ d : Dev nD, k0_dev3 d = (ahead 2 d).val) c)
theorem to0_eq (c : Dev nD) (h : k0_dev4 c < nD) : (⟨k0_dev4 c, h⟩ : Dev nD) = ahead 0 c :=
  Fin.ext ((by decide +kernel : ∀ d : Dev nD, k0_dev4 d = (ahead 0 d).val) c)
theorem to1_eq (c : Dev nD) (h : k0_dev5 c < nD) : (⟨k0_dev5 c, h⟩ : Dev nD) = ahead 1 c :=
  Fin.ext ((by decide +kernel : ∀ d : Dev nD, k0_dev5 d = (ahead 1 d).val) c)
theorem to2_eq (c : Dev nD) (h : k0_dev6 c < nD) : (⟨k0_dev6 c, h⟩ : Dev nD) = ahead 2 c :=
  Fin.ext ((by decide +kernel : ∀ d : Dev nD, k0_dev6 d = (ahead 2 d).val) c)

/-! ## Memory -/

abbrev xM : Memref sig .tc .vmem S2048x512 .f32 := Memref.whole cc0_stg0_0
abbrev wM : Memref sig .tc .vmem S2048x2048 .f32 := Memref.whole cc0_stg1_0
abbrev oM : Memref sig .tc .vmem S512x2048 .f32 := Memref.whole cc0_stg2_0
abbrev rM : Memref sig .tc .vmem S3x512x512 .f32 := Memref.whole cc0_scratch0

/-- The rows of `x` that device `c` sends `k + 1` places ahead. -/
abbrev xSrc (c : Dev nD) (k : Fin 3) : Memref sig .tc .vmem S512x512 .f32 :=
  xM.slice (Rect.unit (s := S2048x512) (k0_off1 c (BitVec.ofNat 32 (1 + k.val))) S512x512.size (Gen.k0_off1_inb c k)) (fun _ => rfl)

theorem slot_inb (k : Fin 3) : ∀ a, (![k.val, 0, 0] : Fin 3 → ℕ) a + S1x512x512.size a ≤ S3x512x512.size a := by
  revert k; decide +kernel

abbrev slotR (k : Fin 3) : Rect S3x512x512 := Rect.unit (s := S3x512x512) ![k.val, 0, 0] S1x512x512.size (slot_inb k)
/-- Slot `k` of the receive buffer, as a block of rows. -/
abbrev slotM (k : Fin 3) : Memref sig .tc .vmem S512x512 .f32 :=
  (rM.slice (slotR k) (fun _ => rfl)).squeeze S512x512 squeezes_S1x512x512_S512x512

abbrev rx0 (c : Dev nD) : Rect S2048x512 := Rect.unit (s := S2048x512) (k0_off2 c) S512x512.size (Gen.k0_off2_inb c)
abbrev rw0 (c : Dev nD) : Rect S2048x2048 := Rect.unit (s := S2048x2048) (k0_off3 c) S512x2048.size (Gen.k0_off3_inb c)
abbrev rwk (c : Dev nD) (k : Fin 3) : Rect S2048x2048 :=
  Rect.unit (s := S2048x2048) (k0_off4 c (BitVec.ofNat 32 (1 + k.val))) S512x2048.size (Gen.k0_off4_inb c k)

/-- Two different slots have no element in common: they differ in the first coordinate. -/
theorem slot_disjoint {k k' : Fin 3} (h : k ≠ k') : Disjoint (slotM k).view.set (slotM k').view.set := by
  rw [Finset.disjoint_left]
  intro i hi hi'
  have e : ∀ j : Fin 3, i ∈ (slotM j).view.set → i (0 : Fin 3) = j := by
    intro j hj
    simp only [Memref.view_squeeze, View.set_reshape] at hj
    have hj' : i ∈ (slotR j).set := by
      have := View.set_slice_whole (sig := sig) cc0_scratch0 (slotR j)
      exact this ▸ hj
    obtain ⟨x, -, hx⟩ := Finset.mem_map.mp (by rw [← Rect.map_emb_univ] at hj'; exact hj')
    apply Fin.ext
    rw [← hx]
    have h0 : (x (0 : Fin 3)).val < 1 := (x (0 : Fin 3)).isLt
    show ((slotR j).emb x (0 : Fin 3)).val = j.val
    have : ((slotR j).emb x (0 : Fin 3)).val = j.val + 1 * (x (0 : Fin 3)).val := rfl
    omega
  exact h ((e k hi).symm.trans (e k' hi'))

/-! ## The semaphore cells -/

abbrev barS : Sem sig := (SemArray.scalar (sig.barrier 0 rfl) : Sems sig S_).sem
/-- The send semaphore and the receive semaphore of transfer `k`. -/
abbrev sendQ (k : Fin 3) : DmaSem sig := match k with
  | 0 => (((cc0_scratch1 : DmaSems sig S3).slice (Rect.unit (s := S3) ![0] S1.size inb_S3_S1_0)).squeeze S_ squeezes_S1_S_).sem
  | 1 => (((cc0_scratch1 : DmaSems sig S3).slice (Rect.unit (s := S3) ![1] S1.size inb_S3_S1_1)).squeeze S_ squeezes_S1_S_).sem
  | 2 => (((cc0_scratch1 : DmaSems sig S3).slice (Rect.unit (s := S3) ![2] S1.size inb_S3_S1_2)).squeeze S_ squeezes_S1_S_).sem
abbrev recvQ (k : Fin 3) : DmaSem sig := match k with
  | 0 => (((cc0_scratch2 : DmaSems sig S3).slice (Rect.unit (s := S3) ![0] S1.size inb_S3_S1_0)).squeeze S_ squeezes_S1_S_).sem
  | 1 => (((cc0_scratch2 : DmaSems sig S3).slice (Rect.unit (s := S3) ![1] S1.size inb_S3_S1_1)).squeeze S_ squeezes_S1_S_).sem
  | 2 => (((cc0_scratch2 : DmaSems sig S3).slice (Rect.unit (s := S3) ![2] S1.size inb_S3_S1_2)).squeeze S_ squeezes_S1_S_).sem

abbrev barC (c : Dev nD) : GSem nD τ sig := ((c : Thread nD τ), .reg barS)
abbrev sendC (c : Dev nD) (k : Fin 3) : GSem nD τ sig := ((c : Thread nD τ), .dma (sendQ k))
abbrev recvC (c : Dev nD) (k : Fin 3) : GSem nD τ sig := ((c : Thread nD τ), .dma (recvQ k))

theorem sendQ_val (k : Fin 3) : (sendQ k).val = 3 + k.val := by revert k; decide
theorem recvQ_val (k : Fin 3) : (recvQ k).val = 6 + k.val := by revert k; decide

/-- What a transfer of one row block counts for, on either of its two cells. -/
abbrev N : ℕ := (slotM 0).view.dmaCredit
theorem N_pos : 0 < N := View.dmaCredit_pos _ (by decide)
theorem amount_slot (k : Fin 3) (q : DmaSem sig) : (slotM k).view.amount (.dma q) = N := rfl

/-! ## Contents -/

/-- What the pipeline has staged of `x` and of the weights when the body runs. -/
def xIn (c : Dev nD) : (cc0_stg0_0 : Ref sig .tc).ty.Contents (Elt F) :=
  (win0_0.blk (0 : Fin 1)).view.read (Elt F) ((start₀ m ρ).mem ((c : Thread nD τ).loc main_arg0))
def wIn (c : Dev nD) : (cc0_stg1_0 : Ref sig .tc).ty.Contents (Elt F) :=
  (win0_1.blk (0 : Fin 1)).view.read (Elt F) ((start₀ m ρ).mem ((c : Thread nD τ).loc main_arg1))

/-- The row block that arrives in slot `k` of device `c`: the one the device `k + 1` places before sends. -/
def arriving (c : Dev nD) (k : Fin 3) : S512x512.Idx → Elt F .f32 :=
  (xSrc (back k c) k).view.read (Elt F) (xIn m ρ (back k c))

/-- Device `c`'s receive buffer with that block in slot `k` (elsewhere, what the run started from). -/
def filled (c : Dev nD) (k : Fin 3) : Buf (Elt F) ((slotM k).view.loc (c : Thread nD τ)) :=
  (slotM k).view.write (Elt F) ((start₀ m ρ).mem ((c : Thread nD τ).loc cc0_scratch0)) (arriving m ρ c k) Finset.univ

theorem write_eq_filled (c : Dev nD) (k : Fin 3) (f : Buf (Elt F) ((slotM k).view.loc (c : Thread nD τ))) :
    ∀ i ∈ (slotM k).view.set, (slotM k).view.write (Elt F) f (arriving m ρ c k) Finset.univ i = filled m ρ c k i := by
  intro i hi
  exact View.write_congr (fun _ _ _ => rfl) (fun hn => absurd hi hn)

/-- Slot `k` of device `c`, held at contents `f`; and the rows transfer `k` reads, held at that transfer's share. -/
def slotAt (c : Dev nD) (k : Fin 3) (f : Buf (Elt F) ((slotM k).view.loc (c : Thread nD τ))) : sProp 𝕄 :=
  (slotM k).view.loc (c : Thread nD τ) ↦[(slotM k).view.set]{fullShare} f
def rowsAt (c : Dev nD) (k : Fin 3) : sProp 𝕄 :=
  (xSrc c k).view.loc (c : Thread nD τ) ↦[(xSrc c k).view.set]{shareTokN fullShare k.val} xIn m ρ c

instance slotAt_storable (c : Dev nD) (k : Fin 3) (f) : BI.Storable (upEmb : UEmb _ 𝕄) (slotAt (F := F) c k f) := by unfold slotAt; infer_instance
instance rowsAt_storable (c : Dev nD) (k : Fin 3) : BI.Storable (upEmb : UEmb _ 𝕄) (rowsAt (F := F) m ρ c k) := by unfold rowsAt; infer_instance

/-! ## The schedule -/

/-- What comes with duty `k` of device `c`'s barrier cell: slot `k` of the device `k + 1` places ahead, and word that its
    receive cell `k` has not been used. -/
def lent (c : Dev nD) (k : Fin 3) : sProp 𝕄 := iprop((∃ f, slotAt (ahead k c) k f) ∗ reached EX (recvC (ahead k c) k) 0)
def gotten (c : Dev nD) (k : Fin 3) : sProp 𝕄 := slotAt c k (filled m ρ c k)

abbrev OnBar (g : GSem nD τ sig) : Prop := g.1.2 = .tc ∧ g.2 = .reg barS
abbrev OnCopy (g : GSem nD τ sig) : Prop := g.1.2 = .tc ∧ ∃ k, g.2 = .dma (sendQ k) ∨ g.2 = .dma (recvQ k)

open Classical in
/-- One round only. On the barrier three duties of one unit; on each of the six transfer cells one duty of a block's
    credit, called `0`. -/
def sched : Rounds.Schedule (GSem nD τ sig) (Fin 3) 𝕄 where
  duties g r := if r = 0 ∧ OnBar g then Finset.univ else if r = 0 ∧ OnCopy g then {0} else ∅
  unitless _ := False
  amount g _ _ := if g.2 = .reg barS then 1 else N
  payload g _ d :=
    if g.2 = .reg barS then lent g.1.1 d
    else if g.2 = .dma (recvQ 0) then gotten m ρ g.1.1 0
    else if g.2 = .dma (recvQ 1) then gotten m ρ g.1.1 1
    else if g.2 = .dma (recvQ 2) then gotten m ρ g.1.1 2
    else if g.2 = .dma (sendQ 0) then rowsAt m ρ g.1.1 0
    else if g.2 = .dma (sendQ 1) then rowsAt m ρ g.1.1 1
    else if g.2 = .dma (sendQ 2) then rowsAt m ρ g.1.1 2
    else iprop(emp)
  amount_pos g _ _ _ := by
    by_cases h : g.2 = .reg barS
    · rw [if_pos h]; exact Nat.one_pos
    · rw [if_neg h]; exact N_pos

instance sched_storable (g : GSem nD τ sig) (r : ℕ) (d : Fin 3) :
    BI.Storable (upEmb : UEmb _ 𝕄) ((sched (F := F) m ρ).payload g r d) := by
  dsimp only [sched]
  unfold lent gotten
  (repeat' split) <;> infer_instance

theorem dma_ne_bar (q : DmaSem sig) : (SemLoc.dma q : SemLoc sig) ≠ .reg barS := fun h => by cases h
theorem sendQ_inj {k k' : Fin 3} : Iff ((SemLoc.dma (sendQ k) : SemLoc sig) = .dma (sendQ k')) (k = k') := by revert k k'; decide
theorem recvQ_inj {k k' : Fin 3} : Iff ((SemLoc.dma (recvQ k) : SemLoc sig) = .dma (recvQ k')) (k = k') := by revert k k'; decide
theorem send_ne_recv (k k' : Fin 3) : (SemLoc.dma (sendQ k) : SemLoc sig) ≠ .dma (recvQ k') := by revert k k'; decide

section Read
variable (c : Dev nD) (k : Fin 3)

theorem duties_bar : (sched (F := F) m ρ).duties (barC c) 0 = Finset.univ := by dsimp only [sched]; exact if_pos ⟨rfl, rfl, rfl⟩
theorem duties_send : (sched (F := F) m ρ).duties (sendC c k) 0 = {0} := by
  dsimp only [sched]; rw [if_neg (fun h => dma_ne_bar _ h.2.2)]; exact if_pos ⟨rfl, rfl, k, .inl rfl⟩
theorem duties_recv : (sched (F := F) m ρ).duties (recvC c k) 0 = {0} := by
  dsimp only [sched]; rw [if_neg (fun h => dma_ne_bar _ h.2.2)]; exact if_pos ⟨rfl, rfl, k, .inr rfl⟩
theorem duties_after (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barC c) 0 d = 1 := by dsimp only [sched]; exact if_pos rfl
theorem amount_send (d : Fin 3) : (sched (F := F) m ρ).amount (sendC c k) 0 d = N := by dsimp only [sched]; exact if_neg (dma_ne_bar _)
theorem amount_recv (d : Fin 3) : (sched (F := F) m ρ).amount (recvC c k) 0 d = N := by dsimp only [sched]; exact if_neg (dma_ne_bar _)

theorem expect_bar : (sched (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendC c k) 0 = N := by
  unfold Schedule.expect Schedule.amountOf; rw [duties_send, Finset.sum_singleton, amount_send]
theorem expect_recv : (sched (F := F) m ρ).expect (recvC c k) 0 = N := by
  unfold Schedule.expect Schedule.amountOf; rw [duties_recv, Finset.sum_singleton, amount_recv]

theorem payload_bar (d : Fin 3) : (sched (F := F) m ρ).payload (barC c) 0 d = lent c d := by dsimp only [sched]; exact if_pos rfl
theorem payload_recv (d : Fin 3) : (sched (F := F) m ρ).payload (recvC c k) 0 d = gotten m ρ c k := by
  dsimp only [sched]
  simp only [if_neg (dma_ne_bar _), recvQ_inj]
  fin_cases k <;> rfl
theorem payload_send (d : Fin 3) : (sched (F := F) m ρ).payload (sendC c k) 0 d = rowsAt m ρ c k := by
  dsimp only [sched]
  simp only [if_neg (dma_ne_bar _), if_neg (send_ne_recv _ _), sendQ_inj]
  fin_cases k <;> rfl

/-- All that the barrier's round brings: the three slots lent. -/
theorem brought_bar : bigSep ((sched (F := F) m ρ).duties (barC c) 0 \ ∅) (fun d => (sched (F := F) m ρ).payload (barC c) 0 d)
    = iprop(lent c 0 ∗ lent c 1 ∗ lent c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem brought_send : bigSep ((sched (F := F) m ρ).duties (sendC c k) 0 \ ∅) (fun d => (sched (F := F) m ρ).payload (sendC c k) 0 d) = rowsAt m ρ c k := by
  rw [Finset.sdiff_empty, duties_send, bigSep_singleton, payload_send]
theorem brought_recv : bigSep ((sched (F := F) m ρ).duties (recvC c k) 0 \ ∅) (fun d => (sched (F := F) m ρ).payload (recvC c k) 0 d) = gotten m ρ c k := by
  rw [Finset.sdiff_empty, duties_recv, bigSep_singleton, payload_recv]

end Read

/-! ## What is owed, and in which order cells may be waited for -/

/-- After the three signals a device owes its three transfers' receive cells a block each; -/
def owed3 (c : Dev nD) : CellTallies nD τ sig Unit :=
  tallyAt (recvC (ahead 2 c) 2) () N + tallyAt (recvC (ahead 1 c) 1) () N + tallyAt (recvC (ahead 0 c) 0) () N
/-- at launch also a unit to each other device's barrier cell. -/
def owed0 (c : Dev nD) : CellTallies nD τ sig Unit :=
  owed3 c + tallyAt (barC (ahead 2 c)) () 1 + tallyAt (barC (ahead 1 c)) () 1 + tallyAt (barC (ahead 0 c)) () 1

def L (g : GSem nD τ sig) : Finset Unit := if g.1.2 = .tc then {()} else ∅
open Classical in
/-- Barrier cells come before receive cells; everything else before both. -/
def lv (g : GSem nD τ sig) (_ : Unit) : ℕ := if g.2 = .reg barS then 1 else if ∃ k, g.2 = .dma (recvQ k) then 2 else 0

theorem L_off (g : GSem nD τ sig) (h : g.1.2 ≠ .tc) : L g = ∅ := if_neg h
theorem L_on (c : Dev nD) (sm : SemLoc sig) : L ((c : Thread nD τ), sm) = {()} := if_pos rfl

theorem lv_bar (c : Dev nD) (u : Unit) : lv (barC c) u = 1 := by dsimp only [lv]; exact if_pos rfl
theorem lv_recv (c : Dev nD) (k : Fin 3) (u : Unit) : lv (recvC c k) u = 2 := by
  dsimp only [lv]; rw [if_neg (dma_ne_bar _)]; exact if_pos ⟨k, rfl⟩
theorem lv_stage (c : Dev nD) (q : DmaSem sig) (hq : q.val < 6) (u : Unit) : lv ((c : Thread nD τ), .dma q) u = 0 := by
  dsimp only [lv]; rw [if_neg (dma_ne_bar _)]
  refine if_neg ?_
  rintro ⟨k, hk⟩
  have : q = recvQ k := by injection hk
  have h2 := recvQ_val k
  rw [← this] at h2
  omega

theorem pos_tallyAt {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem pos_add {A B : CellTallies nD τ sig Unit} {g : GSem nD τ sig} {u : Unit} (h : 0 < (A + B) g u) : 0 < A g u ∨ 0 < B g u := by
  rw [Pi.add_apply, Finsupp.add_apply] at h; omega

theorem owed3_pos {c : Dev nD} {g : GSem nD τ sig} {u : Unit} (h : 0 < owed3 c g u) : ∃ k, g = recvC (ahead k c) k := by
  unfold owed3 at h
  rcases pos_add h with h | h
  · rcases pos_add h with h | h
    · exact ⟨2, pos_tallyAt h⟩
    · exact ⟨1, pos_tallyAt h⟩
  · exact ⟨0, pos_tallyAt h⟩

theorem owed0_pos {c : Dev nD} {g : GSem nD τ sig} {u : Unit} (h : 0 < owed0 c g u) :
    (∃ k, g = recvC (ahead k c) k) ∨ ∃ d : Dev nD, g = barC d := by
  unfold owed0 at h
  rcases pos_add h with h | h
  · rcases pos_add h with h | h
    · rcases pos_add h with h | h
      · exact .inl (owed3_pos h)
      · exact .inr ⟨_, pos_tallyAt h⟩
    · exact .inr ⟨_, pos_tallyAt h⟩
  · exact .inr ⟨_, pos_tallyAt h⟩

/-- The staging cells may be waited for whatever a device owes at that time; -/
theorem mayWait_stage (c : Dev nD) (q : DmaSem sig) (hq : q.val < 6) (O : CellTallies nD τ sig Unit) (hO : O = owed0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_on]; exact Finset.mem_singleton_self _)
      (fun g u hg => by rcases owed0_pos hg with ⟨k, rfl⟩ | ⟨d, rfl⟩ <;> exact Finset.mem_singleton_self _)
      (fun p hp => by rw [Finset.mem_singleton.mp hp]; exact (lv_stage c q hq ()).le)
      (fun g u hg => by
        rcases owed0_pos hg with ⟨k, rfl⟩ | ⟨d, rfl⟩
        · rw [lv_recv]; decide
        · rw [lv_bar]; decide)
  · rw [MayWait_zero]; iintro -; iempintro

/-- the barrier cell while only receive cells are owed. -/
theorem mayWait_bar (c : Dev nD) : (levAts L lv : sProp 𝕄) ⊢ MayWait (c : Thread nD τ) (.reg barS) () (owed3 c) :=
  MayOwe.of_cut (L := L) (lev := lv) 1 (fun p hp => by rw [Finset.mem_singleton.mp hp, L_on]; exact Finset.mem_singleton_self _)
    (fun g u hg => by obtain ⟨k, rfl⟩ := owed3_pos hg; rw [L_on]; exact Finset.mem_singleton_self _)
    (fun p hp => by rw [Finset.mem_singleton.mp hp]; exact (lv_bar c ()).le)
    (fun g u hg => by obtain ⟨k, rfl⟩ := owed3_pos hg; rw [lv_recv]; decide)

end Cert.KernelIdeal.Exchange

end
-- ==== Proof.Body.lean ====
/-
# One device's kernel body

The body of the kernel on device `c`, executed effect by effect: three barrier signals, the barrier wait, three
transfers, the product of the device's own blocks while they fly, then for each arriving block a wait and a product, the
store of the finished rows, and the three waits that give back the rows sent.

Memory is divided once at the start and put together once at the end. The staged `x` is divided by shares: one share of
all of it stays for the body's own load, and each transfer takes another share of just the rows it sends. The receive
buffer is divided into its three slots, which are lent to the three other devices and come back filled.
-/
module

public import proofs.«01_k».proof.Proof.Exchange

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN)

variable {F : FTy → Type} [FloatOps F]

local notation "𝕄" => MT nD τ sig Unit (Elt F) ℕ GU ℕ

variable (m : (ℓ : Loc nD τ sig) → Buf (Elt F) ℓ) (ρ : Dev nD → PrngReg)

/-- The same assertion for each of the three transfers. -/
abbrev three (Φ : Fin 3 → sProp 𝕄) : sProp 𝕄 := iprop(Φ 0 ∗ Φ 1 ∗ Φ 2)

theorem bigSep_three (Φ : Fin 3 → sProp 𝕄) : bigSep Finset.univ Φ = three Φ :=
  bigSep_univ_eq_bigSepL [0, 1, 2] (by decide) (by decide) Φ

/-! ## Dividing the memory -/

/-- The part of the receive buffer in none of the slots. -/
abbrev offSlots : Finset (Idx ((slotM 0).view.loc ((0 : Dev nD) : Thread nD τ))) :=
  ((Finset.univ \ (slotM 0).view.set) \ (slotM 1).view.set) \ (slotM 2).view.set

def slack (c : Dev nD) : sProp 𝕄 := iprop(∃ g : Buf (Elt F) ((c : Thread nD τ).loc cc0_scratch0), ((c : Thread nD τ).loc cc0_scratch0) ↦[offSlots]{fullShare} g)

theorem slot1_sub : (slotM 1).view.set ⊆ Finset.univ \ (slotM 0).view.set :=
  fun i hi => Finset.mem_sdiff.mpr ⟨Finset.mem_univ _, Finset.disjoint_right.mp (slot_disjoint (k := 0) (k' := 1) (by decide)) hi⟩
theorem slot2_sub : (slotM 2).view.set ⊆ (Finset.univ \ (slotM 0).view.set) \ (slotM 1).view.set :=
  fun i hi => Finset.mem_sdiff.mpr ⟨Finset.mem_sdiff.mpr ⟨Finset.mem_univ _, Finset.disjoint_right.mp (slot_disjoint (k := 0) (k' := 2) (by decide)) hi⟩,
    Finset.disjoint_right.mp (slot_disjoint (k := 1) (k' := 2) (by decide)) hi⟩

/-- The receive buffer falls into its three slots and what is off them; -/
theorem divide_slots (c : Dev nD) (f : Buf (Elt F) ((c : Thread nD τ).loc cc0_scratch0)) :
    (((c : Thread nD τ).loc cc0_scratch0) ↦{fullShare} f : sProp 𝕄) ⊢ iprop(three (fun k => slotAt c k f) ∗ slack c) := by
  iintro H
  ihave H := (pointsTo_split_subset (S := Finset.univ) (I := (slotM 0).view.set) (Finset.subset_univ _)).1 $$ H
  icases H with ⟨H0, H⟩
  ihave H := (pointsTo_split_subset slot1_sub).1 $$ H
  icases H with ⟨H1, H⟩
  ihave H := (pointsTo_split_subset slot2_sub).1 $$ H
  icases H with ⟨H2, H⟩
  unfold slotAt slack
  isplitl [H0 H1 H2]
  · isplitl [H0]; · iexact H0
    isplitl [H1] <;> iassumption
  iexists f; iexact H

/-- and is whole again, whatever the slots hold by then. -/
theorem rejoin_slots (c : Dev nD) (f : (k : Fin 3) → Buf (Elt F) ((slotM k).view.loc (c : Thread nD τ))) :
    iprop(three (fun k => slotAt c k (f k)) ∗ slack c) ⊢ (iprop(∃ g, ((c : Thread nD τ).loc cc0_scratch0) ↦{fullShare} g) : sProp 𝕄) := by
  unfold slotAt slack
  iintro ⟨⟨H0, H1, H2⟩, ⟨%g, H⟩⟩
  ihave H := (pointsTo_join_subset (ℓ := (c : Thread nD τ).loc cc0_scratch0) (I := (slotM 2).view.set) (S := (Finset.univ \ (slotM 0).view.set) \ (slotM 1).view.set) slot2_sub) $$ [H2 H]
  · isplitl [H2]; · iexact H2
    iexact H
  ihave H := (pointsTo_join_subset (ℓ := (c : Thread nD τ).loc cc0_scratch0) (I := (slotM 1).view.set) (S := Finset.univ \ (slotM 0).view.set) slot1_sub) $$ [H1 H]
  · isplitl [H1]; · iexact H1
    iexact H
  ihave H := (pointsTo_join_subset (ℓ := (c : Thread nD τ).loc cc0_scratch0) (S := Finset.univ) (I := (slotM 0).view.set) (Finset.subset_univ _)) $$ [H0 H]
  · isplitl [H0]; · iexact H0
    iexact H
  iexists _; iexact H

/-- All of the staged `x` at the share the body keeps, and per transfer, at its share, the rows it does not send. -/
def kept (c : Dev nD) : sProp 𝕄 := ((c : Thread nD τ).loc cc0_stg0_0) ↦{shareDrop fullShare 3} xIn m ρ c
def unsent (c : Dev nD) (k : Fin 3) : sProp 𝕄 :=
  (xSrc c k).view.loc (c : Thread nD τ) ↦[Finset.univ \ (xSrc c k).view.set]{shareTokN fullShare k.val} xIn m ρ c

theorem part_rows (c : Dev nD) (k : Fin 3) :
    ((((c : Thread nD τ).loc cc0_stg0_0) ↦{shareTokN fullShare k.val} xIn m ρ c) : sProp 𝕄) ⊣⊢ iprop(rowsAt m ρ c k ∗ unsent m ρ c k) := by
  unfold rowsAt unsent
  exact pointsTo_split_subset (Finset.subset_univ _)

/-- The staged `x` falls into the kept share and, per transfer, the rows sent and the rest at its share; -/
theorem divide_x (c : Dev nD) :
    (((c : Thread nD τ).loc cc0_stg0_0) ↦{fullShare} xIn m ρ c : sProp 𝕄) ⊢ iprop(kept m ρ c ∗ three (rowsAt m ρ c) ∗ three (unsent m ρ c)) := by
  unfold kept
  refine (Transfers.pointsTo_toks_split fullShare 3).trans (sep_mono_right ?_)
  rw [bigSep_three]
  iintro ⟨H0, H1, H2⟩
  ihave H0 := (part_rows m ρ c 0).1 $$ H0
  ihave H1 := (part_rows m ρ c 1).1 $$ H1
  ihave H2 := (part_rows m ρ c 2).1 $$ H2
  icases H0 with ⟨A0, B0⟩
  icases H1 with ⟨A1, B1⟩
  icases H2 with ⟨A2, B2⟩
  isplitl [A0 A1 A2]
  · isplitl [A0]; · iexact A0
    isplitl [A1] <;> iassumption
  isplitl [B0]; · iexact B0
  isplitl [B1] <;> iassumption

/-- and is whole again once the rows are back. -/
theorem rejoin_x (c : Dev nD) :
    iprop(kept m ρ c ∗ three (rowsAt m ρ c) ∗ three (unsent m ρ c)) ⊢ (((c : Thread nD τ).loc cc0_stg0_0) ↦{fullShare} xIn m ρ c : sProp 𝕄) := by
  unfold kept
  refine Entails.trans (sep_mono_right ?_) (Transfers.pointsTo_toks_join fullShare 3)
  rw [bigSep_three]
  iintro ⟨⟨A0, A1, A2⟩, B0, B1, B2⟩
  isplitl [A0 B0]
  · iapply (part_rows m ρ c 0).2; isplitl [A0] <;> iassumption
  isplitl [A1 B1]
  · iapply (part_rows m ρ c 1).2; isplitl [A1] <;> iassumption
  iapply (part_rows m ρ c 2).2; isplitl [A2] <;> iassumption

/-! ## What is loaded and what is stored -/

/-- Slot `k` as the body loads it; the own rows of `x`; the four row blocks of the weights. -/
def inSlot (c : Dev nD) (k : Fin 3) : S1x512x512.Idx → Elt F .f32 := rM.view.readAt (Elt F) (slotR k).toLoadRect (filled m ρ c k)
def xOwn (c : Dev nD) : S512x512.Idx → Elt F .f32 := xM.view.readAt (Elt F) (rx0 c).toLoadRect (xIn m ρ c)
def wOwn (c : Dev nD) : S512x2048.Idx → Elt F .f32 := wM.view.readAt (Elt F) (rw0 c).toLoadRect (wIn m ρ c)
def wFar (c : Dev nD) (k : Fin 3) : S512x2048.Idx → Elt F .f32 := wM.view.readAt (Elt F) (rwk c k).toLoadRect (wIn m ρ c)

/-- The rows of the result device `c` stores. -/
def stored (c : Dev nD) : (cc0_stg2_0 : Ref sig .tc).ty.Contents (Elt F) :=
  k0_pay4 (k0_pay2 (k0_pay1 (xOwn m ρ c) (wOwn m ρ c)) (inSlot m ρ c 0) (wFar m ρ c 0)) (k0_pay3 (inSlot m ρ c 2)) (wFar m ρ c 2) (inSlot m ρ c 1) (wFar m ρ c 1)

abbrev ro : Rect S512x2048 := Rect.unit (s := S512x2048) ![0, 0] S512x2048.size inb_S512x2048_S512x2048_0_0

theorem write_out (f w : (cc0_stg2_0 : Ref sig .tc).ty.Contents (Elt F)) :
    ((oM : Memref sig .tc .vmem S512x2048 .f32).access ro : View sig .tc _ _ _).write (Elt F) f w Finset.univ = w :=
  Memref.write_access_unit_zero_univ (Elt F) cc0_stg2_0 (funext fun a => by fin_cases a <;> rfl) _ f w

theorem slot_load (k : Fin 3) : rM.view.setOn (slotR k).toLoadRect.set ⊆ (slotM k).view.set := by
  simp only [Memref.view_squeeze, View.set_reshape]
  exact (View.set_slice rM.view (slotR k)).ge

/-! ## The ghost state a device works with -/

/-- Names of cell invariants: of each device's barrier cell, send cells and receive cells. -/
structure Names where
  bar : Dev nD → ℕ
  send : Dev nD → Fin 3 → ℕ
  recv : Dev nD → Fin 3 → ℕ

variable (K : Names)

/-- The invariants device `c` opens: of its own seven cells, of the three other barrier cells, of the three receive cells it
    transfers to. -/
def invs (c : Dev nD) : sProp 𝕄 :=
  iprop(cellInv EX (sched m ρ) (K.bar c) (barC c)
    ∗ three (fun k => cellInv EX (sched m ρ) (K.send c k) (sendC c k))
    ∗ three (fun k => cellInv EX (sched m ρ) (K.recv c k) (recvC c k))
    ∗ three (fun k => cellInv EX (sched m ρ) (K.bar (ahead k c)) (barC (ahead k c)))
    ∗ three (fun k => cellInv EX (sched m ρ) (K.recv (ahead k c) k) (recvC (ahead k c) k)))

instance invs_persistent (c : Dev nD) : BI.Persistent (invs m ρ K c) := by unfold invs; infer_instance

/-- Word that the cells it pays, and the receive cells it lends, are still at their first round. -/
def fresh (c : Dev nD) : sProp 𝕄 :=
  iprop(three (fun k => reached EX (barC (ahead k c)) 0) ∗ three (fun k => reached EX (sendC c k) 0) ∗ three (fun k => reached EX (recvC c k) 0))

instance fresh_persistent (c : Dev nD) : BI.Persistent (fresh (F := F) c) := by unfold fresh; infer_instance

/-- Its place on its own cells. -/
def places (c : Dev nD) : sProp 𝕄 :=
  iprop(atPos EX (barC c) 0 ∅ 0 ∗ three (fun k => atPos EX (sendC c k) 0 ∅ 0) ∗ three (fun k => atPos EX (recvC c k) 0 ∅ 0))

/-- The right to pay: the barrier of the device `k + 1` ahead (whose device `opp k + 1` ahead is `c`), the receive cell its
    transfer `k` fills, and its own send cell `k`. -/
def rights (c : Dev nD) : sProp 𝕄 :=
  iprop(three (fun k => dutyTok EX (barC (ahead k c)) 0 (opp k)) ∗ three (fun k => dutyTok EX (recvC (ahead k c) k) 0 0)
    ∗ three (fun k => dutyTok EX (sendC c k) 0 0))

def ghost (c : Dev nD) : sProp 𝕄 := iprop(invs m ρ K c ∗ fresh c ∗ places c ∗ rights c)

/-- All a body begins with, beside its memory: the ghost state at some names, credit for its own waits, and the order of the
    cells. -/
def begin (c : Dev nD) : sProp 𝕄 :=
  iprop((∃ K, ghost m ρ K c) ∗ cred (tallyAt (barC c) () 3) ∗ three (fun k => cred (tallyAt (recvC c k) () N)) ∗ levAts L lv)

/-- Before the body: that, and the receive buffer. After it: the receive buffer, and its own seven cells empty. -/
def before (c : Dev nD) : sProp 𝕄 := iprop(begin m ρ c ∗ ∃ f : Buf (Elt F) ((c : Thread nD τ).loc cc0_scratch0), ((c : Thread nD τ).loc cc0_scratch0) ↦{fullShare} f)
def past (c : Dev nD) : sProp 𝕄 :=
  iprop((∃ f : Buf (Elt F) ((c : Thread nD τ).loc cc0_scratch0), ((c : Thread nD τ).loc cc0_scratch0) ↦{fullShare} f)
    ∗ semVal (barC c) 0 ∗ three (fun k => semVal (sendC c k) 0) ∗ three (fun k => semVal (recvC c k) 0))

def dats (_ : Fin 1) (c : Dev nD) : Dat τ (Elt F) Unit ℕ GU ℕ cfg0 c where
  A w := (start₀ m ρ).mem ((cfg0.win w).arr.view.loc (c : Thread nD τ))
  after w _ := match w with
    | ⟨0, _⟩ => xIn m ρ c
    | ⟨1, _⟩ => wIn m ρ c
    | ⟨2, _⟩ => stored m ρ c
  Φ t := match t with
    | ⟨0, _⟩ => before m ρ c
    | ⟨_ + 1, _⟩ => past c
  q _ := fullShare
  owed t := match t with
    | ⟨0, _⟩ => owed0 c
    | ⟨_ + 1, _⟩ => 0

abbrev 𝒱₀ : Variants := Variants.none

/-- A staging buffer's whole contents, known to be `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_holds (c : Dev nD) (b : Ref sig .tc) (X : b.ty.Contents (Elt F)) :
    (owns (Ix := Unit) (Name := ℕ) (U := GU) (Lvl := ℕ) (c : Thread nD τ) (Memref.whole b) fullShare X : sProp 𝕄) = holds c b X := by
  unfold owns; simp only [Memref.view_whole, View.read_whole, View.set_whole]

/-! ## Single steps of the protocol -/

/-- The barrier signal to the device `k + 1` ahead: it hands over slot `opp k`. -/
theorem signal_step (c : Dev nD) (k : Fin 3) (n : Dev nD) (hn : n = ahead k c) (u : ℕ) (hu : 1 = u) (O : CellTallies nD τ sig Unit) {W : Waits sig Unit}
    (f : Buf (Elt F) ((c : Thread nD τ).loc cc0_scratch0)) {α : Type} {Q : α → sProp 𝕄} {p : PUnit → Prog (TpuEff nD τ sig (Elt F) Λ₀ .tc) α} :
    iprop(cellInv EX (sched m ρ) (K.bar (ahead k c)) (barC (ahead k c)) ∗ owes (c : Thread nD τ) (O + tallyAt (barC (ahead k c)) () 1) W
        ∗ dutyTok EX (barC (ahead k c)) 0 (opp k) ∗ slotAt c (opp k) f ∗ reached EX (recvC c (opp k)) 0 ∗ reached EX (barC (ahead k c)) 0)
      ⊢ iprop((owes (c : Thread nD τ) O W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (Dev.tc n : Thread nD τ) barS u) p) Q) := by
  subst hn; subst hu
  iintro ⟨HI, HO, Ht, Hs, Hr, Hb⟩
  iapply (Rounds.wp_signal 𝒱₀ EX (sched m ρ) (c : Thread nD τ) none (dst := (ahead k c : Thread nD τ)) (κ := K.bar (ahead k c))
      (d := opp k) (by rw [duties_bar]; exact Finset.mem_univ _) (amount_bar m ρ (ahead k c) (opp k)) () O rfl)
  isplitl [HI]; · iexact HI
  isplitl [HO]; · iexact HO
  isplitl [Ht]; · iexact Ht
  isplitl [Hs Hr]
  · rw [payload_bar]; unfold lent; rw [ahead_opp]
    isplitl [Hs]; · iexists f; iexact Hs
    iexact Hr
  iexact Hb

theorem arriving_ahead (c : Dev nD) (k : Fin 3) :
    arriving m ρ (ahead k c) k = (xSrc c k).view.read (Elt F) (xIn m ρ c) := by
  unfold arriving; rw [back_ahead]

/-- Transfer `k`: the rows leave with their share, and the slot they land in is the receiver's from then on. -/
theorem send_step (c : Dev nD) (k : Fin 3) (n : Dev nD) (hn : n = ahead k c) (O : CellTallies nD τ sig Unit) {W : Waits sig Unit}
    {hsc : (slotM k : Memref sig (Dev.tc n : Thread nD τ).2.kind .vmem S512x512 .f32).view.ref.isScScratch = false}
    {hsrc : (xSrc c k).view.WordExact} {hdst : (slotM k).view.WordExact}
    {hsem : DmaTarget.Typed .vmem (.dma (recvQ k)) (.remote (Dev.tc n : Thread nD τ) (slotM k : Memref sig (Dev.tc n : Thread nD τ).2.kind .vmem S512x512 .f32) (.dma (sendQ k)) hsc)}
    (f : Buf (Elt F) ((slotM k).view.loc (ahead k c : Thread nD τ)))
    {α : Type} {Q : α → sProp 𝕄} {p : PUnit → Prog (TpuEff nD τ sig (Elt F) Λ₀ .tc) α} :
    iprop(cellInv EX (sched m ρ) (K.send c k) (sendC c k) ∗ cellInv EX (sched m ρ) (K.recv (ahead k c) k) (recvC (ahead k c) k)
        ∗ rowsAt m ρ c k ∗ slotAt (ahead k c) k f
        ∗ owes (c : Thread nD τ) (O + tallyAt (recvC (ahead k c) k) () N) W
        ∗ dutyTok EX (sendC c k) 0 0 ∗ reached EX (sendC c k) 0
        ∗ dutyTok EX (recvC (ahead k c) k) 0 0 ∗ reached EX (recvC (ahead k c) k) 0)
      ⊢ iprop(((cred (tallyAt (sendC c k) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (xSrc c k) (.remote (Dev.tc n : Thread nD τ) (slotM k) (.dma (sendQ k)) hsc) (.dma (recvQ k)) hsrc hdst hsem) p) Q) := by
  subst hn
  unfold rowsAt slotAt
  exact Rounds.wp_send_pointsTo 𝒱₀ EX (sched m ρ) (c : Thread nD τ) none (κ₁ := K.send c k) (κ₂ := K.recv (ahead k c) k)
    (r₁ := 0) (r₂ := 0) (d₁ := 0) (d₂ := 0) (fd := f)
    (by rw [duties_send]; exact Finset.mem_singleton_self _) (by rw [duties_recv]; exact Finset.mem_singleton_self _)
    () () N rfl (amount_send m ρ c k 0) (amount_recv m ρ (ahead k c) k 0) O rfl (W := W)
    (by rw [payload_send]; exact BI.Entails.refl _)
    (by rw [payload_recv]; unfold gotten slotAt
        rw [← arriving_ahead]
        exact Entails.of_eq (pointsTo_congr (write_eq_filled m ρ (ahead k c) k f)))

/-- A wait for all a cell's round brings, and the cell put away: there is no further round, so its counter is back, at zero. -/
theorem settle (c : Dev nD) (sm : SemLoc sig) {κ n : ℕ} {w : TpuEff nD τ sig (Elt F) Λ₀ .tc PUnit}
    (hw : ∀ G : PUnit → sProp 𝕄, wpE (defs₀ (F := F)) 𝒱₀ (c : Thread nD τ) none Set.univ w G = waitSpec (c : Thread nD τ) Set.univ sm n G)
    (O : CellTallies nD τ sig Unit) {W : Waits sig Unit} (he : (sched (F := F) m ρ).expect ((c : Thread nD τ), sm) 0 = n) (P : sProp 𝕄)
    (hP : bigSep ((sched (F := F) m ρ).duties ((c : Thread nD τ), sm) 0 \ ∅) (fun d => (sched (F := F) m ρ).payload ((c : Thread nD τ), sm) 0 d) = P)
    {α : Type} {Q : α → sProp 𝕄} {p : PUnit → Prog (TpuEff nD τ sig (Elt F) Λ₀ .tc) α} :
    iprop(cellInv EX (sched m ρ) κ ((c : Thread nD τ), sm) ∗ cred (tallyAt ((c : Thread nD τ), sm) () n) ∗ owes (c : Thread nD τ) O W
        ∗ MayWait (c : Thread nD τ) sm () O ∗ atPos EX ((c : Thread nD τ), sm) 0 ∅ 0)
      ⊢ iprop(((owes (c : Thread nD τ) O (insert (sm, ()) W) ∗ P ∗ semVal ((c : Thread nD τ), sm) 0)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  iintro ⟨#HI, Hc, HO, HM, Ha⟩ Hk
  iapply (Rounds.wp_wait_rest_token 𝒱₀ EX (sched m ρ) (c : Thread nD τ) none (κ := κ) hw (Set.mem_univ _) () (O := O) (W := W) (R := 0) (m := 0) (T := ∅)
      (by rw [Nat.zero_add, he])) $$ [Hc HO HM Ha]
  · isplitr; · iexact HI
    isplitl [Hc]; · iexact Hc
    isplitl [HO]; · iexact HO
    isplitl [HM]; · iexact HM
    iexact Ha
  iintro ⟨HO, Ha, -, Hp⟩
  imod (Rounds.cell_close EX (sched m ρ) (Set.mem_univ κ) (fun h => h) (R := 0 + 1) (duties_after m ρ ((c : Thread nD τ), sm))) $$ [Ha] with Hz
  · isplitr; · iexact HI
    iexact Ha
  ihave Hp := (Entails.of_eq hP) $$ Hp
  iapply Hk
  isplitl [HO]; · iexact HO
  isplitl [Hp]; · iexact Hp
  iexact Hz

/-- The wait for the block that fills slot `k`; nothing is owed by then. -/
theorem recv_step (c : Dev nD) (k : Fin 3) {hsrc : (xSrc c k).view.WordExact} {hdst : (slotM k).view.WordExact} {W : Waits sig Unit}
    {α : Type} {Q : α → sProp 𝕄} {p : PUnit → Prog (TpuEff nD τ sig (Elt F) Λ₀ .tc) α} :
    iprop(cellInv EX (sched m ρ) (K.recv c k) (recvC c k) ∗ cred (tallyAt (recvC c k) () N) ∗ owes (c : Thread nD τ) 0 W ∗ atPos EX (recvC c k) 0 ∅ 0)
      ⊢ iprop(((owes (c : Thread nD τ) 0 (insert (.dma (recvQ k), ()) W) ∗ gotten m ρ c k ∗ semVal (recvC c k) 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 (recvQ k) (xSrc c k) (slotM k) hsrc hdst) p) Q) := by
  iintro ⟨#HI, Hc, HO, Ha⟩
  iapply (settle m ρ c (.dma (recvQ k)) (κ := K.recv c k) (n := N) (fun _ => rfl) 0 (expect_recv m ρ c k) _ (brought_recv m ρ c k))
  isplitr; · iexact HI
  isplitl [Hc]; · iexact Hc
  isplitl [HO]; · iexact HO
  isplitr; · rw [MayWait_zero]; iempintro
  iexact Ha

/-- The wait for the rows of transfer `k` to have been read. -/
theorem back_step (c : Dev nD) (k : Fin 3) {hsrc : (slotM k).view.WordExact} {hdst : (xSrc c k).view.WordExact} {W : Waits sig Unit}
    {α : Type} {Q : α → sProp 𝕄} {p : PUnit → Prog (TpuEff nD τ sig (Elt F) Λ₀ .tc) α} :
    iprop(cellInv EX (sched m ρ) (K.send c k) (sendC c k) ∗ cred (tallyAt (sendC c k) () N) ∗ owes (c : Thread nD τ) 0 W ∗ atPos EX (sendC c k) 0 ∅ 0)
      ⊢ iprop(((owes (c : Thread nD τ) 0 (insert (.dma (sendQ k), ()) W) ∗ rowsAt m ρ c k ∗ semVal (sendC c k) 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 (sendQ k) (slotM k) (xSrc c k) hsrc hdst) p) Q) := by
  iintro ⟨#HI, Hc, HO, Ha⟩
  iapply (settle m ρ c (.dma (sendQ k)) (κ := K.send c k) (n := N) (fun _ => rfl) 0 (expect_send m ρ c k) _ (brought_send m ρ c k))
  isplitr; · iexact HI
  isplitl [Hc]; · iexact Hc
  isplitl [HO]; · iexact HO
  isplitr; · rw [MayWait_zero]; iempintro
  iexact Ha

/-! ## The whole body -/

def pre (c : Dev nD) : sProp 𝕄 :=
  iprop((ghost m ρ K c ∗ cred (tallyAt (barC c) () 3) ∗ three (fun k => cred (tallyAt (recvC c k) () N)) ∗ levAts L lv)
    ∗ (∃ f : Buf (Elt F) ((c : Thread nD τ).loc cc0_scratch0), ((c : Thread nD τ).loc cc0_scratch0) ↦{fullShare} f)
    ∗ (dats m ρ 0 c).owesAt () t0_0.castSucc
    ∗ (∃ d, holds c cc0_stg0_0 ((dats m ρ 0 c).before (0 : Fin 3) t0_0 d))
    ∗ (∃ d, holds c cc0_stg1_0 ((dats m ρ 0 c).before (1 : Fin 3) t0_0 d))
    ∗ (∃ d, holds c cc0_stg2_0 ((dats m ρ 0 c).before (2 : Fin 3) t0_0 d)))

def post (c : Dev nD) : sProp 𝕄 :=
  iprop(past c ∗ (dats m ρ 0 c).owesAt () t0_0.succ ∗ holds c cc0_stg0_0 (xIn m ρ c) ∗ holds c cc0_stg1_0 (wIn m ρ c) ∗ holds c cc0_stg2_0 (stored m ρ c))

set_option maxHeartbeats 4000000 in
theorem body_runs (c : Dev nD) (Q : PUnit → sProp 𝕄) :
    iprop(pre m ρ K c ∗ (post m ρ c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold pre ghost invs fresh places rights
  iintro ⟨⟨⟨⟨⟨#Ib, ⟨#Is0, #Is1, #Is2⟩, ⟨#Ir0, #Ir1, #Ir2⟩, ⟨#Jb0, #Jb1, #Jb2⟩, #Jr0, #Jr1, #Jr2⟩,
      ⟨⟨#Rb0, #Rb1, #Rb2⟩, ⟨#Rs0, #Rs1, #Rs2⟩, #Rr0, #Rr1, #Rr2⟩,
      ⟨Ab, ⟨As0, As1, As2⟩, Ar0, Ar1, Ar2⟩, ⟨Tb0, Tb1, Tb2⟩, ⟨Tr0, Tr1, Tr2⟩, Ts0, Ts1, Ts2⟩, Cb, ⟨Cr0, Cr1, Cr2⟩, #Hlev⟩,
      ⟨%fr, Hr⟩, Ho, ⟨%d0, %g0, %hg0, Hx⟩, ⟨%d1, %g1, %hg1, Hw⟩, ⟨%d2, %g2, %hg2, Hout⟩⟩, Hk⟩
  have hx : g0 = xIn m ρ c := by rw [hg0]; unfold Dat.before; rw [if_pos (fetch0_0 t0_0)]; rfl
  have hw : g1 = wIn m ρ c := by rw [hg1]; unfold Dat.before; rw [if_pos (fetch0_1 t0_0)]; rfl
  subst hx hw
  ihave Hr := (divide_slots c fr) $$ Hr
  icases Hr with ⟨⟨S0, S1, S2⟩, Hslack⟩
  ihave Hx := (divide_x m ρ c) $$ Hx
  icases Hx with ⟨Hx, ⟨X0, X1, X2⟩, Hunsent⟩
  unfold Dat.owesAt Pipeline.owesWithin
  icases Ho with ⟨%W, %hW, HO⟩
  rw [show (dats m ρ 0 c).owed t0_0.castSucc = owed0 c from rfl]
  unfold owed0
  -- the three signals, each lending a slot
  iapply (signal_step m ρ K c 0 _ (sig0_eq c _) _ rfl _ fr) $$ [HO Tb0 S2]
  · isplitr; · iexact Jb0
    isplitl [HO]; · iexact HO
    isplitl [Tb0]; · iexact Tb0
    isplitl [S2]; · iexact S2
    isplitr; · iexact Rr2
    iexact Rb0
  iintro HO
  iapply (signal_step m ρ K c 1 _ (sig1_eq c _) _ rfl _ fr) $$ [HO Tb1 S1]
  · isplitr; · iexact Jb1
    isplitl [HO]; · iexact HO
    isplitl [Tb1]; · iexact Tb1
    isplitl [S1]; · iexact S1
    isplitr; · iexact Rr1
    iexact Rb1
  iintro HO
  iapply (signal_step m ρ K c 2 _ (sig2_eq c _) _ rfl _ fr) $$ [HO Tb2 S0]
  · isplitr; · iexact Jb2
    isplitl [HO]; · iexact HO
    isplitl [Tb2]; · iexact Tb2
    isplitl [S0]; · iexact S0
    isplitr; · iexact Rr0
    iexact Rb2
  iintro HO
  -- the barrier wait: the three slots to fill
  iapply (settle m ρ c (.reg barS) (κ := K.bar c) (wpE_semWait_eq 𝒱₀ (c : Thread nD τ) none Set.univ) (owed3 c) (expect_bar m ρ c) _ (brought_bar m ρ c)) $$ [Cb HO Ab]
  · isplitr; · iexact Ib
    isplitl [Cb]; · iexact Cb
    isplitl [HO]; · iexact HO
    isplitr; · iapply (mayWait_bar c); iexact Hlev
    iexact Ab
  unfold lent owed3
  iintro ⟨HO, ⟨⟨⟨%f0, L0⟩, #Q0⟩, ⟨⟨%f1, L1⟩, #Q1⟩, ⟨⟨%f2, L2⟩, #Q2⟩⟩, Zb⟩
  -- the three transfers
  iapply (send_step m ρ K c 0 _ (to0_eq c _) _ f0) $$ [X0 L0 HO Ts0 Tr0]
  · isplitr; · iexact Is0
    isplitr; · iexact Jr0
    isplitl [X0]; · iexact X0
    isplitl [L0]; · iexact L0
    isplitl [HO]; · iexact HO
    isplitl [Ts0]; · iexact Ts0
    isplitr; · iexact Rs0
    isplitl [Tr0]; · iexact Tr0
    iexact Q0
  iintro ⟨Cs0, HO⟩
  iapply (send_step m ρ K c 1 _ (to1_eq c _) _ f1) $$ [X1 L1 HO Ts1 Tr1]
  · isplitr; · iexact Is1
    isplitr; · iexact Jr1
    isplitl [X1]; · iexact X1
    isplitl [L1]; · iexact L1
    isplitl [HO]; · iexact HO
    isplitl [Ts1]; · iexact Ts1
    isplitr; · iexact Rs1
    isplitl [Tr1]; · iexact Tr1
    iexact Q1
  iintro ⟨Cs1, HO⟩
  iapply (send_step m ρ K c 2 _ (to2_eq c _) 0 f2) $$ [X2 L2 HO Ts2 Tr2]
  · isplitr; · iexact Is2
    isplitr; · iexact Jr2
    isplitl [X2]; · iexact X2
    isplitl [L2]; · iexact L2
    isplitl [HO]; · rw [zero_add]; iexact HO
    isplitl [Ts2]; · iexact Ts2
    isplitr; · iexact Rs2
    isplitl [Tr2]; · iexact Tr2
    iexact Q2
  iintro ⟨Cs2, HO⟩
  -- the device's own blocks
  unfold kept
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  -- the blocks that arrive
  iapply (recv_step m ρ K c 0) $$ [Cr0 HO Ar0]
  · isplitr; · iexact Ir0
    isplitl [Cr0]; · iexact Cr0
    isplitl [HO]; · iexact HO
    iexact Ar0
  iintro ⟨HO, S0, Zr0⟩
  unfold gotten slotAt
  iapply (wp_load 𝒱₀ (c : Thread nD τ) none Set.univ (m := rM) (slot_load 0)) $$ S0; iintro S0
  iapply (wp_load 𝒱₀ (c : Thread nD τ) none Set.univ (m := wM) (Finset.subset_univ _)) $$ Hw; iintro Hw
  iapply (recv_step m ρ K c 2) $$ [Cr2 HO Ar2]
  · isplitr; · iexact Ir2
    isplitl [Cr2]; · iexact Cr2
    isplitl [HO]; · iexact HO
    iexact Ar2
  iintro ⟨HO, S2, Zr2⟩
  unfold gotten slotAt
  iapply (wp_load 𝒱₀ (c : Thread nD τ) none Set.univ (m := rM) (slot_load 2)) $$ S2; iintro S2
  iapply (wp_load 𝒱₀ (c : Thread nD τ) none Set.univ (m := wM) (Finset.subset_univ _)) $$ Hw; iintro Hw
  iapply (recv_step m ρ K c 1) $$ [Cr1 HO Ar1]
  · isplitr; · iexact Ir1
    isplitl [Cr1]; · iexact Cr1
    isplitl [HO]; · iexact HO
    iexact Ar1
  iintro ⟨HO, S1, Zr1⟩
  unfold gotten slotAt
  iapply (wp_load 𝒱₀ (c : Thread nD τ) none Set.univ (m := rM) (slot_load 1)) $$ S1; iintro S1
  iapply (wp_load 𝒱₀ (c : Thread nD τ) none Set.univ (m := wM) (Finset.subset_univ _)) $$ Hw; iintro Hw
  -- the rows of the result
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out]
  -- the rows sent, back
  iapply (back_step m ρ K c 0) $$ [Cs0 HO As0]
  · isplitr; · iexact Is0
    isplitl [Cs0]; · iexact Cs0
    isplitl [HO]; · iexact HO
    iexact As0
  iintro ⟨HO, X0, Zs0⟩
  iapply (back_step m ρ K c 1) $$ [Cs1 HO As1]
  · isplitr; · iexact Is1
    isplitl [Cs1]; · iexact Cs1
    isplitl [HO]; · iexact HO
    iexact As1
  iintro ⟨HO, X1, Zs1⟩
  iapply (back_step m ρ K c 2) $$ [Cs2 HO As2]
  · isplitr; · iexact Is2
    isplitl [Cs2]; · iexact Cs2
    isplitl [HO]; · iexact HO
    iexact As2
  iintro ⟨HO, X2, Zs2⟩
  rw [wp_ret]; imodintro
  iapply Hk
  ihave Hx := (rejoin_x m ρ c) $$ [Hx X0 X1 X2 Hunsent]
  · unfold kept
    isplitl [Hx]; · iexact Hx
    isplitl [X0 X1 X2]
    · isplitl [X0]; · iexact X0
      isplitl [X1] <;> iassumption
    iexact Hunsent
  ihave Hr := (rejoin_slots c (filled m ρ c)) $$ [S0 S1 S2 Hslack]
  · unfold slotAt
    isplitr [Hslack]
    · isplitl [S0]; · iexact S0
      isplitl [S1] <;> iassumption
    iexact Hslack
  unfold post past Dat.owesAt Pipeline.owesWithin
  rw [show (dats m ρ 0 c).owed t0_0.succ = 0 from rfl]
  isplitl [Hr Zb Zs0 Zs1 Zs2 Zr0 Zr1 Zr2]
  · isplitl [Hr]; · iexact Hr
    isplitl [Zb]; · iexact Zb
    isplitl [Zs0 Zs1 Zs2]
    · isplitl [Zs0]; · iexact Zs0
      isplitl [Zs1] <;> iassumption
    isplitl [Zr0]; · iexact Zr0
    isplitl [Zr1] <;> iassumption
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr
  rotate_left
  · iexact Hout
  · ipureintro; rfl

/-- The obligation the pipeline has for its body, on device `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  simp only [owns_holds]
  show iprop(before m ρ c ∗ (dats m ρ 0 c).owesAt () t0_0.castSucc
      ∗ (∃ d, holds c cc0_stg0_0 ((dats m ρ 0 c).before (0 : Fin 3) t0_0 d))
      ∗ (∃ d, holds c cc0_stg1_0 ((dats m ρ 0 c).before (1 : Fin 3) t0_0 d))
      ∗ (∃ d, holds c cc0_stg2_0 ((dats m ρ 0 c).before (2 : Fin 3) t0_0 d)))
    ⊢ wp frame (wpE (defs₀ (F := F)) 𝒱₀ c none) Set.univ
      (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) (fun _ => post m ρ c)
  unfold before begin
  iintro ⟨⟨⟨⟨%K, Hg⟩, Hrest⟩, Hr⟩, Ho, Hx, Hw, Hout⟩
  iapply (body_runs m ρ K c fun _ => post m ρ c)
  unfold pre
  isplitr []
  · isplitl [Hg Hrest]
    · isplitl [Hg]; · iexact Hg
      iexact Hrest
    isplitl [Hr]; · iexact Hr
    isplitl [Ho]; · iexact Ho
    isplitl [Hx]; · iexact Hx
    isplitl [Hw] <;> iassumption
  · iintro H; iexact H

end Cert.KernelIdeal.Exchange

end
-- ==== Proof.Start.lean ====
/-
# From launch to finish, on all four devices

The launch hands out what the bodies work with: the invariants of the twenty-eight cells (seven per device), allocated for
all devices at once since each is opened by several of them; the rights to pay, dealt round the ring to whoever pays; and
the credit each device waits with, which is what the others owe it. `exchange_runs` puts this together with the body: every
fair run ends, with every array at known contents and every semaphore counter at zero.
-/
module

public import proofs.«01_k».proof.Proof.Body
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ## The cells, numbered -/

/-- The kernel's own semaphores: the six of the transfers. -/
abbrev ownS : Fin 6 → SemLoc sig := fun
  | 0 => .dma (sendQ 0) | 1 => .dma (sendQ 1) | 2 => .dma (sendQ 2) | 3 => .dma (recvQ 0) | 4 => .dma (recvQ 1) | 5 => .dma (recvQ 2)
/-- All seven: the barrier first. -/
abbrev allS : Fin 7 → SemLoc sig := fun
  | 0 => .reg barS | 1 => .dma (sendQ 0) | 2 => .dma (sendQ 1) | 3 => .dma (sendQ 2) | 4 => .dma (recvQ 0) | 5 => .dma (recvQ 1) | 6 => .dma (recvQ 2)
abbrev cellAt (x : Dev nD × Fin 7) : GSem nD τ sig := ((x.1 : Thread nD τ), allS x.2)

theorem ownS_facts : Pipeline.OwnSemFacts cfg0.spec ownS := by decide

theorem allS_injective : Function.Injective allS := by decide

theorem cellAt_injective : Function.Injective cellAt := fun x y h =>
  Prod.ext (congrArg (fun g : GSem nD τ sig => g.1.1) h) (allS_injective (congrArg Prod.snd h))

/-- The rights to pay a device's cells, as they are made: by kind of cell and number. -/
abbrev rightAt (x : Dev nD × Fin 3 × Fin 3) : GSem nD τ sig × ℕ × Fin 3 := match x.2.1 with
  | 0 => (barC x.1, 0, x.2.2)
  | 1 => (sendC x.1 x.2.2, 0, 0)
  | 2 => (recvC x.1 x.2.2, 0, 0)

/-- The kind and number of such a right, without the device. -/
abbrev rightTag (x : Fin 3 × Fin 3) : SemLoc sig × Fin 3 := match x.1 with
  | 0 => (.reg barS, x.2)
  | 1 => (.dma (sendQ x.2), 0)
  | 2 => (.dma (recvQ x.2), 0)

theorem rightTag_injective : Function.Injective rightTag := by decide

theorem rightAt_tag (c : Dev nD) (x : Fin 3 × Fin 3) : rightTag x = ((rightAt (c, x)).1.2, (rightAt (c, x)).2.2) := by
  obtain ⟨j, k⟩ := x; fin_cases j <;> rfl
theorem rightAt_dev (c : Dev nD) (x : Fin 3 × Fin 3) : (rightAt (c, x)).1.1.1 = c := by
  obtain ⟨j, k⟩ := x; fin_cases j <;> rfl

theorem rightAt_injective : Function.Injective rightAt := by
  rintro ⟨c, x⟩ ⟨c', x'⟩ h
  have h1 : c = c' := by rw [← rightAt_dev c x, h, rightAt_dev c' x']
  have h2 : x = x' := rightTag_injective (by rw [rightAt_tag c x, h, ← rightAt_tag c' x'])
  rw [h1, h2]

def cells : Finset (GSem nD τ sig) := Finset.univ.map ⟨cellAt, cellAt_injective⟩
def allRights : Finset (GSem nD τ sig × ℕ × Fin 3) := Finset.univ.map ⟨rightAt, rightAt_injective⟩

/-- The ghost state the launch starts with. -/
def seed : GU := (initOf (Pipeline.cells cfgs cellOf_inj) (Pipeline.launchToks cfgs cellOf_inj), initOf cells allRights)

/-- The same assertion for each of a device's seven cells. -/
abbrev seven (Φ : Fin 7 → sProp 𝕄) : sProp 𝕄 := iprop(Φ 0 ∗ Φ 1 ∗ Φ 2 ∗ Φ 3 ∗ Φ 4 ∗ Φ 5 ∗ Φ 6)
theorem bigSep_seven (Φ : Fin 7 → sProp 𝕄) : bigSep Finset.univ Φ = seven Φ :=
  bigSep_univ_eq_bigSepL [0, 1, 2, 3, 4, 5, 6] (by decide) (by decide) Φ

/-! ## What each device is dealt -/

/-- The rights to pay device `c`'s own cells. -/
def minted (c : Dev nD) : sProp 𝕄 :=
  iprop(three (fun k => dutyTok EX (barC c) 0 k) ∗ three (fun k => dutyTok EX (sendC c k) 0 0) ∗ three (fun k => dutyTok EX (recvC c k) 0 0))

def dealt (c : Dev nD) : sProp 𝕄 :=
  iprop((bigSep Finset.univ fun j : Fin 7 => roundState EX (sched m ρ) (cellAt (c, j)) 0)
    ∗ (bigSep Finset.univ fun j : Fin 7 => iprop(atPos EX (cellAt (c, j)) 0 ∅ 0 ∗ reached EX (cellAt (c, j)) 0)) ∗ minted c)

def ready (c : Dev nD) : sProp 𝕄 := iprop(∃ K, ghost m ρ K c)

theorem deal : BI.own (EX (initOf cells allRights)) ⊢ (|==> bigSep Finset.univ (dealt m ρ) : sProp 𝕄) := by
  have hX (Φ : GSem nD τ sig → sProp 𝕄) : bigSep cells Φ = bigSep Finset.univ fun c : Dev nD => bigSep Finset.univ fun j : Fin 7 => Φ (cellAt (c, j)) := by
    unfold cells; rw [bigSep_map, bigSep_univ_prod]; rfl
  have hT : bigSep allRights (fun x => (dutyTok EX x.1 x.2.1 x.2.2 : sProp 𝕄)) = bigSep Finset.univ fun c : Dev nD => minted c := by
    unfold allRights; rw [bigSep_map, bigSep_univ_prod]
    exact bigSep_congr fun c _ => by unfold minted; rw [bigSep_univ_prod, bigSep_three]; simp only [bigSep_three]; rfl
  iintro HX
  imod (Rounds.fund EX (sched m ρ) cells allRights) $$ HX with ⟨Hst, Hr, Hat, Htok⟩
  imodintro
  ihave Hst := (Entails.of_eq (hX fun g => roundState EX (sched m ρ) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt; simp only [bigSep_sep']
  isplitl [Hst]; · iexact Hst
  isplitl [Hat Hr]
  · isplitl [Hat] <;> iassumption
  iexact Htok

theorem own_zero (c : Dev nD) : (Pipeline.ownSems0 (Ix := Unit) (Name := ℕ) (U := GU) (Lvl := ℕ) (Val := Elt F) (τ := τ) ownS c : sProp 𝕄)
    = iprop(semVal (sendC c 0) 0 ∗ semVal (sendC c 1) 0 ∗ semVal (sendC c 2) 0 ∗ semVal (recvC c 0) 0 ∗ semVal (recvC c 1) 0 ∗ semVal (recvC c 2) 0) := by
  rw [Pipeline.ownSems0_eq_of_list c ownS [0, 1, 2, 3, 4, 5] (by decide) (by decide)]; rfl
theorem bar_zero (c : Dev nD) : (unscopedSems0 c : sProp 𝕄) = semVal (barC c) 0 := by
  unfold unscopedSems0; rw [bigSep_eq_bigSepL_of_eq [SemLoc.reg barS] (by decide) (by decide)]; rfl

theorem all_zero (c : Dev nD) :
    iprop(Pipeline.ownSems0 (Ix := Unit) (Name := ℕ) (U := GU) (Lvl := ℕ) (Val := Elt F) (τ := τ) ownS c ∗ unscopedSems0 c)
      ⊢ (bigSep Finset.univ fun j : Fin 7 => semVal (cellAt (c, j)) 0 : sProp 𝕄) := by
  rw [own_zero, bar_zero, bigSep_seven]
  iintro ⟨HS, HB⟩
  isplitl [HB]; · iexact HB
  iexact HS

/-- One device's share of the global step: its seven cells get their invariants. -/
theorem guard (c : Dev nD) :
    iprop(Pipeline.ownSems0 (Ix := Unit) (Name := ℕ) (U := GU) (Lvl := ℕ) (Val := Elt F) (τ := τ) ownS c ∗ unscopedSems0 c ∗ dealt m ρ c)
      ⊢ |={Set.univ}=> iprop((bigSep Finset.univ fun j => iprop(∃ κ : ℕ, cellInv EX (sched m ρ) κ (cellAt (c, j))))
          ∗ (bigSep Finset.univ fun j => iprop(atPos EX (cellAt (c, j)) 0 ∅ 0 ∗ reached EX (cellAt (c, j)) 0)) ∗ minted c) := by
  unfold dealt
  iintro ⟨Hos, Hus, Hst, Hat, Htok⟩
  ihave Hv := (all_zero (F := F) c) $$ [Hos Hus]
  · isplitl [Hos] <;> iassumption
  imod (show iprop((bigSep Finset.univ fun j : Fin 7 => semVal (cellAt (c, j)) 0) ∗ bigSep Finset.univ fun j : Fin 7 => roundState EX (sched m ρ) (cellAt (c, j)) 0)
      ⊢ (|={Set.univ}=> bigSep Finset.univ fun j => iprop(∃ κ : ℕ, cellInv EX (sched m ρ) κ (cellAt (c, j))) : sProp 𝕄) from by
        rw [← bigSep_sep']
        exact (bigSep_mono fun j _ => (Rounds.body_intro EX (sched m ρ) (cellAt (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing round the ring -/

/-- What everyone may know of every cell. -/
def known (κ : Dev nD × Fin 7 → ℕ) : sProp 𝕄 :=
  iprop((bigSep Finset.univ fun x : Dev nD × Fin 7 => cellInv EX (sched m ρ) (κ x) (cellAt x))
    ∗ bigSep Finset.univ fun x : Dev nD × Fin 7 => reached EX (cellAt x) 0)

instance known_persistent (κ : Dev nD × Fin 7 → ℕ) : BI.Persistent (known m ρ κ) := by unfold known; infer_instance

theorem known_inv (κ : Dev nD × Fin 7 → ℕ) (x : Dev nD × Fin 7) : known m ρ κ ⊢ cellInv EX (sched m ρ) (κ x) (cellAt x) := by
  have h : (bigSep Finset.univ fun x : Dev nD × Fin 7 => cellInv EX (sched m ρ) (κ x) (cellAt x)) ⊢ cellInv EX (sched m ρ) (κ x) (cellAt x) :=
    bigSep_elim (Finset.mem_univ x)
  unfold known; iintro ⟨H, -⟩; iapply h; iexact H
theorem known_reached (κ : Dev nD × Fin 7 → ℕ) (x : Dev nD × Fin 7) : known m ρ κ ⊢ reached EX (cellAt x) 0 := by
  have h : (bigSep Finset.univ fun x : Dev nD × Fin 7 => (reached EX (cellAt x) 0 : sProp 𝕄)) ⊢ reached EX (cellAt x) 0 :=
    bigSep_elim (Finset.mem_univ x)
  unfold known; iintro ⟨-, H⟩; iapply h; iexact H

abbrev sendIx (k : Fin 3) : Fin 7 := match k with | 0 => 1 | 1 => 2 | 2 => 3
abbrev recvIx (k : Fin 3) : Fin 7 := match k with | 0 => 4 | 1 => 5 | 2 => 6

/-- The names a body uses, out of the numbered ones. -/
abbrev naming (κ : Dev nD × Fin 7 → ℕ) : Names := ⟨fun c => κ (c, 0), fun c k => κ (c, sendIx k), fun c k => κ (c, recvIx k)⟩

theorem know_send (κ : Dev nD × Fin 7 → ℕ) (c : Dev nD) (k : Fin 3) : known m ρ κ ⊢ cellInv EX (sched m ρ) ((naming κ).send c k) (sendC c k) := by
  fin_cases k
  · exact known_inv m ρ κ (c, 1)
  · exact known_inv m ρ κ (c, 2)
  · exact known_inv m ρ κ (c, 3)
theorem know_recv (κ : Dev nD × Fin 7 → ℕ) (c : Dev nD) (k : Fin 3) : known m ρ κ ⊢ cellInv EX (sched m ρ) ((naming κ).recv c k) (recvC c k) := by
  fin_cases k
  · exact known_inv m ρ κ (c, 4)
  · exact known_inv m ρ κ (c, 5)
  · exact known_inv m ρ κ (c, 6)
theorem fresh_send (κ : Dev nD × Fin 7 → ℕ) (c : Dev nD) (k : Fin 3) : known m ρ κ ⊢ reached EX (sendC c k) 0 := by
  fin_cases k
  · exact known_reached m ρ κ (c, 1)
  · exact known_reached m ρ κ (c, 2)
  · exact known_reached m ρ κ (c, 3)
theorem fresh_recv (κ : Dev nD × Fin 7 → ℕ) (c : Dev nD) (k : Fin 3) : known m ρ κ ⊢ reached EX (recvC c k) 0 := by
  fin_cases k
  · exact known_reached m ρ κ (c, 4)
  · exact known_reached m ρ κ (c, 5)
  · exact known_reached m ρ κ (c, 6)

/-- Something everyone may know, three times over. -/
theorem three_of {R : sProp 𝕄} [BI.Persistent R] {Φ : Fin 3 → sProp 𝕄} (h : ∀ k, R ⊢ Φ k) : R ⊢ three Φ := by
  iintro #H
  isplitr; · iapply (h 0); iexact H
  isplitr; · iapply (h 1); iexact H
  iapply (h 2); iexact H

theorem get_ready (κ : Dev nD × Fin 7 → ℕ) (c : Dev nD) : iprop(known m ρ κ ∗ places c ∗ rights c) ⊢ ready m ρ c := by
  unfold ready ghost invs fresh
  iintro ⟨#H, Hp, Hr⟩
  iexists (naming κ)
  isplitr
  · isplitr; · iapply (known_inv m ρ κ (c, 0)); iexact H
    isplitr; · iapply (three_of (know_send m ρ κ c)); iexact H
    isplitr; · iapply (three_of (know_recv m ρ κ c)); iexact H
    isplitr; · iapply (three_of (Φ := fun k => cellInv EX (sched m ρ) ((naming κ).bar (ahead k c)) (barC (ahead k c))) fun k => known_inv m ρ κ (ahead k c, 0)); iexact H
    iapply (three_of (Φ := fun k => cellInv EX (sched m ρ) ((naming κ).recv (ahead k c) k) (recvC (ahead k c) k)) fun k => know_recv m ρ κ (ahead k c) k); iexact H
  isplitr
  · isplitr; · iapply (three_of (Φ := fun k => reached EX (barC (ahead k c)) 0) fun k => known_reached m ρ κ (ahead k c, 0)); iexact H
    isplitr; · iapply (three_of (fresh_send m ρ κ c)); iexact H
    iapply (three_of (fresh_recv m ρ κ c)); iexact H
  isplitl [Hp] <;> iassumption

theorem move (k : Fin 3) (Φ : Dev nD → sProp 𝕄) : bigSep Finset.univ Φ = bigSep Finset.univ fun c => Φ (ahead k c) :=
  bigSep_univ_equiv (turn k) Φ

/-- Every right goes to the device that pays: duty `k` of a barrier to the device `k + 1` ahead of its owner, which is the one
    that has the owner `opp k + 1` ahead; the right to fill slot `k` to the device `k + 1` before. -/
theorem deal_round : (bigSep Finset.univ fun c : Dev nD => (minted c : sProp 𝕄)) ⊢ bigSep Finset.univ fun c : Dev nD => rights c := by
  unfold minted rights three
  simp only [bigSep_sep']
  rw [move 2 (fun c => dutyTok EX (barC c) 0 0), move 1 (fun c => dutyTok EX (barC c) 0 1), move 0 (fun c => dutyTok EX (barC c) 0 2),
    move 0 (fun c => dutyTok EX (recvC c 0) 0 0), move 1 (fun c => dutyTok EX (recvC c 1) 0 0), move 2 (fun c => dutyTok EX (recvC c 2) 0 0)]
  iintro ⟨⟨B0, B1, B2⟩, S, R⟩
  isplitl [B0 B1 B2]
  · isplitl [B2]; · iexact B2
    isplitl [B1]; · iexact B1
    iexact B0
  isplitl [R]; · iexact R
  iexact S

theorem with_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem places_of (c : Dev nD) : (bigSep Finset.univ fun j : Fin 7 => (atPos EX (cellAt (c, j)) 0 ∅ 0 : sProp 𝕄)) ⊢ places c := by
  rw [bigSep_seven]; unfold places
  iintro ⟨H0, H1, H2, H3, H4, H5, H6⟩
  isplitl [H0]; · iexact H0
  isplitl [H1 H2 H3]
  · isplitl [H1]; · iexact H1
    isplitl [H2] <;> iassumption
  isplitl [H4]; · iexact H4
  isplitl [H5] <;> iassumption

theorem all_ready :
    (bigSep Finset.univ fun c : Dev nD => iprop((bigSep Finset.univ fun j => iprop(∃ κ : ℕ, cellInv EX (sched m ρ) κ (cellAt (c, j))))
          ∗ (bigSep Finset.univ fun j => iprop(atPos EX (cellAt (c, j)) 0 ∅ 0 ∗ reached EX (cellAt (c, j)) 0)) ∗ minted c) : sProp 𝕄)
      ⊢ bigSep Finset.univ (ready m ρ) := by
  rw [bigSep_sep', bigSep_sep', ← bigSep_univ_prod (fun x : Dev nD × Fin 7 => iprop(∃ κ : ℕ, cellInv EX (sched m ρ) κ (cellAt x))),
    bigSep_congr (s := Finset.univ) (fun (c : Dev nD) _ => bigSep_sep' Finset.univ (fun j : Fin 7 => (atPos EX (cellAt (c, j)) 0 ∅ 0 : sProp 𝕄)) (fun j => reached EX (cellAt (c, j)) 0)),
    bigSep_sep', ← bigSep_univ_prod (fun x : Dev nD × Fin 7 => (reached EX (cellAt x) 0 : sProp 𝕄))]
  have places_all : (bigSep Finset.univ fun c : Dev nD => bigSep Finset.univ fun j : Fin 7 => (atPos EX (cellAt (c, j)) 0 ∅ 0 : sProp 𝕄))
      ⊢ bigSep Finset.univ places := bigSep_mono fun c _ => places_of (F := F) c
  iintro ⟨HI, ⟨Hat, #HR⟩, Htok⟩
  ihave HK := (BI.bigSep_exists_pi Finset.univ (fun (x : Dev nD × Fin 7) (κ : ℕ) => (cellInv EX (sched m ρ) κ (cellAt x) : sProp 𝕄))) $$ HI
  icases HK with ⟨%κ, #HI⟩
  ihave Htk := (deal_round (F := F)) $$ Htok
  iapply (with_known (R := known m ρ κ) (Φ := fun c => iprop(places c ∗ rights c)) fun c => get_ready m ρ κ c)
  isplitr
  · unfold known; isplitl; · iexact HI
    iexact HR
  · rw [bigSep_sep']
    isplitl [Hat]
    · iapply places_all; iexact Hat
    iexact Htk

theorem global : (bigSep Finset.univ fun c => iprop(Pipeline.ownSems0 (Ix := Unit) (Name := ℕ) (U := GU) (Lvl := ℕ) (Val := Elt F) (τ := τ) ownS c ∗ unscopedSems0 c ∗ dealt m ρ c) : sProp 𝕄)
    ⊢ |={Set.univ}=> bigSep Finset.univ (ready m ρ) :=
  ((bigSep_mono fun c _ => guard m ρ c).trans (bigSep_fupd _ _)).trans (BI.fupd_mono (all_ready m ρ))

/-! ## The credit at launch -/

theorem barC_inj {a b : Dev nD} : Iff (barC a = barC b) (a = b) :=
  ⟨fun h => congrArg (fun g : GSem nD τ sig => g.1.1) h, fun h => h ▸ rfl⟩
theorem recvC_inj {a b : Dev nD} {k k' : Fin 3} : Iff (recvC a k = recvC b k') (a = b ∧ k = k') :=
  ⟨fun h => ⟨congrArg (fun g : GSem nD τ sig => g.1.1) h, recvQ_inj.mp (congrArg Prod.snd h)⟩, fun ⟨h, h'⟩ => by subst h h'; rfl⟩

theorem bar_ne_recv (a b : Dev nD) (k : Fin 3) : barC a ≠ recvC b k := fun h => dma_ne_bar _ (congrArg Prod.snd h).symm

theorem tally_bar (a b : Dev nD) (n : ℕ) : (tallyAt (barC b) () n : CellTallies nD τ sig Unit) (barC a) () = if a = b then n else 0 := by
  rw [tallyAt_apply]; simp only [barC_inj, and_true]
theorem tally_recv (a b : Dev nD) (k k' : Fin 3) (n : ℕ) :
    (tallyAt (recvC b k') () n : CellTallies nD τ sig Unit) (recvC a k) () = if a = b ∧ k = k' then n else 0 := by
  rw [tallyAt_apply]; simp only [recvC_inj, and_true]
theorem tally_bar_recv (a b : Dev nD) (k : Fin 3) (n : ℕ) : (tallyAt (recvC b k) () n : CellTallies nD τ sig Unit) (barC a) () = 0 := by
  rw [tallyAt_apply, if_neg fun h => bar_ne_recv a b k h.1]
theorem tally_recv_bar (a b : Dev nD) (k : Fin 3) (n : ℕ) : (tallyAt (barC b) () n : CellTallies nD τ sig Unit) (recvC a k) () = 0 := by
  rw [tallyAt_apply, if_neg fun h => bar_ne_recv b a k h.1.symm]

theorem owed_bar (d c : Dev nD) : owed0 d (barC c) () = (if c = ahead 2 d then 1 else 0) + (if c = ahead 1 d then 1 else 0) + (if c = ahead 0 d then 1 else 0) := by
  unfold owed0 owed3
  simp only [Pi.add_apply, Finsupp.add_apply]
  rw [tally_bar_recv c (ahead 2 d) 2, tally_bar_recv c (ahead 1 d) 1, tally_bar_recv c (ahead 0 d) 0, tally_bar, tally_bar, tally_bar]
  simp only [Nat.zero_add]
theorem owed_recv (d c : Dev nD) (k : Fin 3) : owed0 d (recvC c k) () = if c = ahead k d then N else 0 := by
  unfold owed0 owed3
  simp only [Pi.add_apply, Finsupp.add_apply]
  rw [tally_recv c (ahead 2 d) k 2, tally_recv c (ahead 1 d) k 1, tally_recv c (ahead 0 d) k 0, tally_recv_bar, tally_recv_bar, tally_recv_bar]
  fin_cases k <;> simp

theorem credit_bar (c : Dev nD) :
    tallyOn (barC c) (launchCredit (Pipeline.owing owed0) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem credit_recv (c : Dev nD) (k : Fin 3) :
    tallyOn (recvC c k) (launchCredit (Pipeline.owing owed0) 0 (recvC c k)) = (tallyAt (recvC c k) () N : CellTallies nD τ sig Unit) := by
  unfold tallyAt; refine congrArg _ (Finsupp.ext fun u => ?_); cases u
  rw [Pipeline.launchCredit_owing, Finsupp.single_eq_same, Finset.sum_congr rfl fun d _ => (owed_recv d c k).trans
      (if_congr (show Iff (c = ahead k d) (d = back k c) from ⟨fun h => by rw [h, back_ahead], fun h => by rw [h, ahead_back]⟩) rfl rfl),
    Finset.sum_ite_eq' Finset.univ (back k c) fun _ => N, if_pos (Finset.mem_univ _)]

theorem credit (c : Dev nD) :
    (Pipeline.launchCred owed0 c : sProp 𝕄) ⊢ iprop(cred (tallyAt (barC c) () 3) ∗ three (fun k => cred (tallyAt (recvC c k) () N))) := by
  unfold Pipeline.launchCred
  rw [bigSep_univ_at _ (SemLoc.reg barS), credit_bar]
  refine sep_mono_right ?_
  rw [bigSep_erase (Finset.mem_erase.mpr ⟨dma_ne_bar (recvQ 0), Finset.mem_univ _⟩),
    bigSep_erase (i := SemLoc.dma (recvQ 1)) (by decide), credit_recv, credit_recv]
  refine sep_mono_right (sep_mono_right ?_)
  rw [bigSep_erase (i := SemLoc.dma (recvQ 2)) (by decide), credit_recv]
  exact sep_elim_left

/-! ## The run -/

theorem share_full (c : Dev nD) (w : Fin cfg0.W) : (dats m ρ 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ ready m ρ c)
      ⊢ |={Set.univ}=> iprop(begin m ρ c ∗ emp) := by
  iintro ⟨-, Hlev, Hcr, -, HG⟩
  ihave Hc := (credit (F := F) c) $$ Hcr
  icases Hc with ⟨H1, HN⟩
  imodintro
  unfold begin ready
  isplitl
  · isplitl [HG]; · iexact HG
    isplitl [H1]; · iexact H1
    isplitl [HN]; · iexact HN
    iexact Hlev
  · iempintro

theorem before_intro (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem past_exit (c : Dev nD) :
    (dats m ρ 0 c).Φ (Fin.last cfg0.N) ⊢ iprop(unscopedSems0 c ∗ Pipeline.ownSems0 ownS c ∗ Pipeline.scopedRest cfg0.spec c) := by
  rw [show (dats m ρ 0 c).Φ (Fin.last cfg0.N) = past c from rfl, scopedRest0_eq, own_zero, bar_zero]
  unfold past
  iintro ⟨Hr, Zb, ⟨Z0, Z1, Z2⟩, Z3, Z4, Z5⟩
  isplitl [Zb]; · iexact Zb
  isplitr [Hr]
  · isplitl [Z0]; · iexact Z0
    isplitl [Z1]; · iexact Z1
    isplitl [Z2]; · iexact Z2
    isplitl [Z3]; · iexact Z3
    isplitl [Z4] <;> iassumption
  iexact Hr

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves in window `w`'s array on device `c`. -/
def left (c : Dev nD) (w : Fin cfg0.W) : Buf (Elt F) ((cfg0.win w).arr.view.loc (c : Thread nD τ)) := (dats m ρ 0 c).arrAt w cfg0.N

/-- Every fair run of the four devices' programs ends, from any memory with its counters at zero; at the end each window's
    array is as the pipeline's data say, and every semaphore counter is at zero. -/
theorem exchange_runs : θ_run defs (onTc (τ := τ) (main (F := F))) (start₀ m ρ) (fun r =>
    (∀ c : Dev nD, ∀ w : Fin cfg0.W, r.2.mem ((cfg0.win w).arr.view.loc (c : Thread nD τ)) = left m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownS_facts (Pipeline.PreFacts.none _) EPipe defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed0) (howed₀ := fun _ => rfl) (howedN := fun _ => rfl)
    (L := L) (lv := lv) (hL := L_off) (hwaits := stage_waits m ρ)
    (G := dealt m ρ) (G' := ready m ρ) (u₀ := seed)
    (hu₀ := by
      unfold seed
      iintro Hu
      ihave H := (ownU_pair _ _) $$ Hu
      icases H with ⟨HP, HX⟩
      imod (deal m ρ) $$ HX with HG
      imodintro
      isplitl [HP] <;> iassumption)
    (hglob := global m ρ)
    (hA := fun _ _ => rfl) (hpf := fun _ k => k.elim0)
    (X := begin m ρ) (Y := fun c => unscopedSems0 c) (Z := fun _ => iprop(emp))
    (hX := begin_intro m ρ) (hin := before_intro m ρ) (hout := past_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are left as they were. -/
theorem left_x (c : Dev nD) : left m ρ c (0 : Fin 3) = m ((c : Thread nD τ).loc main_arg0) :=
  (dats (F := F) m ρ 0 c).arrAt_in (0 : Fin 3) rfl _
theorem left_w (c : Dev nD) : left m ρ c (1 : Fin 3) = m ((c : Thread nD τ).loc main_arg1) :=
  (dats (F := F) m ρ 0 c).arrAt_in (1 : Fin 3) rfl _

/-- The run, seen from the program's arrays: the result array as left, both arguments unchanged, all counters at zero. -/
theorem exchange_ends : θ_run defs (onTc (τ := τ) (main (F := F))) (start₀ m ρ) (fun r =>
    (∀ c : Dev nD, r.2.mem ((c.tc : Thread nD τ).loc main_v1) = left m ρ c (2 : Fin 3)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨h.1 c 2, (h.1 c 0).trans (left_x m ρ c), (h.1 c 1).trans (left_w m ρ c)⟩, h.2⟩) (exchange_runs m ρ)

end Cert.KernelIdeal.Exchange

end
-- ==== Proof.Value.lean ====
/-
# What a device stores, entry by entry

The rows a device stores are read off at one entry, from the arrays the run started with. The four products are over the
four row blocks of the weights, the device's own first; the block of `x` that goes with the block of device `e` is the one
device `e` sent. At the ideal values, where a product is a finite sum, the four together are one sum over all four devices
(`rows_total`), and the last step multiplies it by the logistic function of itself (`stored_apply`).
-/
module

public import proofs.«01_k».proof.Proof.Start
public import Idealize.ShloMosaic.Lib.StackMember
public import Idealize.ShloMosaic.Lib.IdealHost

@[expose] public section

set_option maxRecDepth 16384

noncomputable section

namespace Cert.KernelIdeal.Exchange

open Cert.KernelIdeal Cert.KernelIdeal.Gen
open Idealize.ShloMosaic Idealize.ShloMosaic.TcCoe Idealize.SL.Sem
open Idealize.ShloMosaic.ValueIdx
open scoped BigOperators

section Entries

variable {F : FTy → Type} [FloatOps F]
variable (m : (ℓ : Loc nD τ sig) → Buf (Elt F) ℓ) (ρ : Dev nD → PrngReg)

/-- Row `r` of block `e`, among all the rows. -/
def row (e : Dev nD) (r : Fin 512) : Fin 2048 := ⟨512 * e.val + r.val, by have := e.isLt; change e.val < 4 at this; omega⟩

theorem xIn_eq (c : Dev nD) : xIn m ρ c = m ((c : Thread nD τ).loc main_arg0) :=
  Memref.read_access_unit_zero (Elt F) main_arg0 (funext fun a => by fin_cases a <;> decide) _ _
theorem wIn_eq (c : Dev nD) : wIn m ρ c = m ((c : Thread nD τ).loc main_arg1) :=
  Memref.read_access_unit_zero (Elt F) main_arg1 (funext fun a => by fin_cases a <;> decide) _ _

theorem sent_off : ∀ (k : Fin 3) (c : Dev nD), k0_off1 (back k c) (BitVec.ofNat 32 (1 + k.val)) = ![512 * c.val, 0] := by decide +kernel
theorem far_off : ∀ (k : Fin 3) (c : Dev nD), k0_off4 c (BitVec.ofNat 32 (1 + k.val)) = ![512 * (back k c).val, 0] := by decide +kernel

/-- Reading through a block of whole rows that starts at row `512 e`. -/
theorem at_rows {n : ℕ} {α : Type} (f : (⟨2, ![2048, n]⟩ : Shape).Idx → α) (e : Dev nD) {off : Fin 2 → ℕ} (h : off = ![512 * e.val, 0])
    (inb : ∀ a, off a + (⟨2, ![512, n]⟩ : Shape).size a ≤ (⟨2, ![2048, n]⟩ : Shape).size a) (r : Fin 512) (j : Fin n) :
    f ((Rect.unit (s := ⟨2, ![2048, n]⟩) off (⟨2, ![512, n]⟩ : Shape).size inb).emb (ix2 r j)) = f (ix2 (row e r) j) := by
  subst h
  refine congrArg f (funext fun a => Fin.ext ?_)
  match a with
  | ⟨0, _⟩ => show 512 * e.val + 1 * r.val = 512 * e.val + r.val; omega
  | ⟨1, _⟩ => show 0 + 1 * j.val = j.val; omega

theorem xOwn_apply (c : Dev nD) (r k : Fin 512) : xOwn m ρ c (ix2 r k) = m ((c : Thread nD τ).loc main_arg0) (ix2 (row c r) k) := by
  unfold xOwn; rw [xIn_eq]
  exact at_rows (n := 512) (m ((c : Thread nD τ).loc main_arg0)) c (k0_off2_eq c) (Gen.k0_off2_inb c) r k
theorem wOwn_apply (c : Dev nD) (k : Fin 512) (j : Fin 2048) :
    wOwn m ρ c (ix2 k j) = m ((c : Thread nD τ).loc main_arg1) (ix2 (row c k) j) := by
  unfold wOwn; rw [wIn_eq]
  exact at_rows (n := 2048) (m ((c : Thread nD τ).loc main_arg1)) c (k0_off3_eq c) (Gen.k0_off3_inb c) k j
theorem wFar_apply (c : Dev nD) (q : Fin 3) (k : Fin 512) (j : Fin 2048) :
    wFar m ρ c q (ix2 k j) = m ((c : Thread nD τ).loc main_arg1) (ix2 (row (back q c) k) j) := by
  unfold wFar; rw [wIn_eq]
  exact at_rows (n := 2048) (m ((c : Thread nD τ).loc main_arg1)) (back q c) (far_off q c) (Gen.k0_off4_inb c q) k j

/-- Slot `q`, as the matrix unit gets it, is the block of rows that arrived. -/
theorem inSlot_eq (c : Dev nD) (q : Fin 3) (h : S1x512x512.ShapeCasts S512x512) : shapeCast S512x512 (inSlot m ρ c q) h = arriving m ρ c q :=
  (show shapeCast S512x512 (inSlot m ρ c q) h = (slotM q).view.read (Elt F) (filled m ρ c q) from rfl).trans (View.read_write_univ _ _)
theorem arriving_apply (c : Dev nD) (q : Fin 3) (r k : Fin 512) :
    arriving m ρ c q (ix2 r k) = m (((back q c : Dev nD) : Thread nD τ).loc main_arg0) (ix2 (row c r) k) := by
  unfold arriving; rw [xIn_eq]
  exact at_rows (n := 512) (m (((back q c : Dev nD) : Thread nD τ).loc main_arg0)) c (sent_off q c) (Gen.k0_off1_inb (back q c) q) r k

/-- The result array is left holding exactly what the body stored. -/
theorem left_out (c : Dev nD) : left m ρ c (2 : Fin 3) = stored m ρ c := by
  have h : (win0_2.blk (0 : Fin 1)).view.read (Elt F) (left m ρ c (2 : Fin 3)) = stored m ρ c := by
    unfold left
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (funext fun a => by fin_cases a <;> decide) _ (left m ρ c (2 : Fin 3))).symm.trans h

end Entries

/-! ## At the ideal values -/

variable (m : (ℓ : Loc nD τ sig) → Buf (Elt Ideal) ℓ) (ρ : Dev nD → PrngReg)

/-- The arrays device `e` starts with: its columns of `x`, and its copy of the weights. -/
def xHere (e : Dev nD) : S2048x512.Idx → EReal := m ((e : Thread nD τ).loc main_arg0)
def wHere (e : Dev nD) : S2048x2048.Idx → EReal := m ((e : Thread nD τ).loc main_arg1)

/-- The part of entry `(r, j)` of device `c`'s rows that device `e`'s columns of `x` make. -/
def part (c e : Dev nD) (r : Fin 512) (j : Fin 2048) : EReal :=
  ∑ k : Fin 512, xHere m e (ix2 (row c r) k) * wHere m c (ix2 (row e k) j)

/-- A block product into zeros, at one entry. -/
theorem block_product (a : FVec Ideal S512x512 .f32) (b : FVec Ideal S512x2048 .f32) (r : Fin 512) (j : Fin 2048) :
    matmul dot_S512x512_S512x2048_S512x2048_1_0_0_1_n_n none a b (constant S512x2048 .f32 0x00000000#32) (ix2 r j)
      = ∑ k : Fin 512, a (ix2 r k) * b (ix2 k j) := by
  rw [matmul_zero_eq_dotGeneral]
  exact StackMember.dotGeneral_plain_apply none a b r j

/-- The sum of the four parts, in whatever order the device takes them, is the sum over all devices. -/
theorem rows_total (c : Dev nD) (f : Dev nD → EReal) : f c + f (back 0 c) + f (back 2 c) + f (back 1 c) = ∑ e, f e := by
  have hs : (Finset.univ : Finset (Dev nD)) = {c, back 0 c, back 2 c, back 1 c} := by revert c; decide
  have h1 : c ∉ ({back 0 c, back 2 c, back 1 c} : Finset (Dev nD)) := by revert c; decide
  have h2 : back 0 c ∉ ({back 2 c, back 1 c} : Finset (Dev nD)) := by revert c; decide
  have h3 : back 2 c ∉ ({back 1 c} : Finset (Dev nD)) := by revert c; decide
  rw [hs, Finset.sum_insert h1, Finset.sum_insert h2, Finset.sum_insert h3, Finset.sum_singleton]
  simp only [add_assoc]

/-- A block product into zeros, as the body takes it. -/
abbrev times (a : FVec Ideal S512x512 .f32) (b : FVec Ideal S512x2048 .f32) : FVec Ideal S512x2048 .f32 :=
  matmul dot_S512x512_S512x2048_S512x2048_1_0_0_1_n_n none a b (constant S512x2048 .f32 0x00000000#32)

/-- The body's arithmetic on what it loads, at one entry: four products added, and the sum times its logistic. -/
theorem arithmetic_apply (a : FVec Ideal S512x512 .f32) (s₀ s₁ s₂ : FVec Ideal S1x512x512 .f32) (b b₀ b₁ b₂ : FVec Ideal S512x2048 .f32)
    (i : S512x2048.Idx) (y : EReal)
    (hy : times a b i + times (shapeCast S512x512 s₀ shapeCasts_S1x512x512_S512x512) b₀ i
      + times (shapeCast S512x512 s₂ shapeCasts_S1x512x512_S512x512) b₂ i + times (shapeCast S512x512 s₁ shapeCasts_S1x512x512_S512x512) b₁ i = y) :
    k0_pay4 (F := Ideal) (k0_pay2 (k0_pay1 a b) s₀ b₀) (k0_pay3 s₂) b₂ s₁ b₁ i = y * Ideal.logistic y := by
  rw [← hy]
  unfold k0_pay4 k0_pay3 k0_pay2 k0_pay1
  simp only [shapeCast_self]
  rfl

/-- Entry `(r, j)` of the rows device `c` stores. -/
theorem stored_apply (c : Dev nD) (r : Fin 512) (j : Fin 2048) :
    stored m ρ c (ix2 r j) = (∑ e, part m c e r j) * Ideal.logistic (∑ e, part m c e r j) := by
  have hown : times (xOwn m ρ c) (wOwn m ρ c) (ix2 r j) = part m c c r j := by
    rw [times, block_product]
    exact Finset.sum_congr rfl fun k _ => by rw [xOwn_apply, wOwn_apply, xHere, wHere]
  have hfar (q : Fin 3) : times (shapeCast S512x512 (inSlot m ρ c q) shapeCasts_S1x512x512_S512x512) (wFar m ρ c q) (ix2 r j)
      = part m c (back q c) r j := by
    rw [inSlot_eq, times, block_product]
    exact Finset.sum_congr rfl fun k _ => by rw [arriving_apply, wFar_apply]; rfl
  refine arithmetic_apply (xOwn m ρ c) (inSlot m ρ c 0) (inSlot m ρ c 1) (inSlot m ρ c 2) (wOwn m ρ c) (wFar m ρ c 0) (wFar m ρ c 1) (wFar m ρ c 2)
    (ix2 r j) _ ?_
  rw [← rows_total c fun e => part m c e r j, hown, hfar 0, hfar 1, hfar 2]

end Cert.KernelIdeal.Exchange

end
-- ==== Proof.Reference.lean ====
/-
# The reference's run and its result

The reference is a straight line of array operations on one device: the whole product `x · w`, and from it `y / (1 + e⁻ʸ)`.
`reference_runs` runs it; `result_apply` reads its result at one entry; and `result_block` says that a block of 512 rows of
the result is what the matching device of the kernel stores, the product of 2048 terms being cut into the four sums of 512.
-/
module

public import proofs.«01_k».proof.Proof.Value
public import proofs.«01_k».proof.Proof.Gen.ReferenceIdeal
public import Idealize.ShloMosaic.Lib.StableHlo.Run
public import Idealize.ShloMosaic.Lib.Layout

@[expose] public section

set_option maxRecDepth 16384

noncomputable section

namespace Cert.ReferenceIdeal.Whole

open Cert.ReferenceIdeal Cert.ReferenceIdeal.Gen
open Idealize.ShloMosaic Idealize.ShloMosaic.TcCoe Idealize.ShloMosaic.StableHlo Idealize.SL.Sem
open Idealize.ShloMosaic.ValueIdx
open scoped BigOperators

section Run

variable {F : FTy → Type} [FloatOps F]

abbrev product (x w : FVec F S2048x2048 .f32) : FVec F S2048x2048 .f32 :=
  Host.dotGeneral dot_S2048x2048_S2048x2048_S2048x2048_1_0_0_1_n_n none x w

/-- The result from the two arguments. -/
abbrev result (x w : FVec F S2048x2048 .f32) : FVec F S2048x2048 .f32 :=
  Host.divf (product x w)
    (addf (broadcastInDim S2048x2048 ![] Gen.bcast_S_S2048x2048 (constant S_ .f32 0x3F800000#32 : FVec F S_ .f32)) (Host.exp (Host.negf (product x w))))

abbrev steps : List (HloOp τ sig (Elt F)) :=
  [ binary main_arg0 main_arg1 main_v0 (fun l r => Host.dotGeneral dot_S2048x2048_S2048x2048_S2048x2048_1_0_0_1_n_n none l r),
    unary main_v0 main_v1 Host.negf,
    unary main_v1 main_v2 Host.exp,
    nullary main_cst (constant S_ .f32 0x3F800000#32),
    unary main_cst main_v3 (broadcastInDim S2048x2048 ![] Gen.bcast_S_S2048x2048),
    binary main_v3 main_v2 main_v4 addf,
    binary main_v0 main_v4 main_v5 Host.divf ]

theorem main_steps (c : Dev nD) : main (F := F) c = seq steps := rfl

theorem result_after (V : Valuation τ sig (Elt F)) :
    after steps V (main_v5 : DevRef τ sig) = result (V (main_arg0 : DevRef τ sig)) (V (main_arg1 : DevRef τ sig)) := by
  after_results
theorem x_after (V : Valuation τ sig (Elt F)) : after steps V (main_arg0 : DevRef τ sig) = V (main_arg0 : DevRef τ sig) := by after_results
theorem w_after (V : Valuation τ sig (Elt F)) : after steps V (main_arg1 : DevRef τ sig) = V (main_arg1 : DevRef τ sig) := by after_results

theorem no_scoped_refs : (Finset.univ.filter fun b : Ref sig .tc => b.isScoped) = ∅ := by decide
theorem no_scoped_sems : (Finset.univ.filter fun sm : SemLoc sig => sm.isScoped .tc) = ∅ := by decide

theorem steps_local : (steps : List (HloOp τ sig (Elt F))).Forall fun op => op.bufs ⊆ tcRefs τ sig :=
  ⟨binary_bufs_sub .., unary_bufs_sub .., unary_bufs_sub .., nullary_bufs_sub .., unary_bufs_sub .., binary_bufs_sub .., binary_bufs_sub ..⟩

/-- The reference's run: it ends, with its result computed from the arguments, which it leaves as they were. -/
theorem reference_runs (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5)
            = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v5).trans (result_after _), (h c main_arg0).trans (x_after _), (h c main_arg1).trans (w_after _)⟩)
    (run_seq no_scoped_refs no_scoped_sems defs main (fun _ => steps) main_steps (fun _ => steps_local) m ρ)

end Run

/-! ## The result at the ideal values -/

theorem product_apply (x w : FVec Ideal S2048x2048 .f32) (p j : Fin 2048) : product x w (ix2 p j) = ∑ k : Fin 2048, x (ix2 p k) * w (ix2 k j) :=
  StackMember.dotGeneral_plain_apply none x w p j

theorem exp_nonneg (y : EReal) : 0 ≤ Ideal.exp y := by
  induction y using EReal.rec with
  | bot => exact le_refl 0
  | top => exact le_top
  | coe r => exact EReal.coe_nonneg.mpr (Real.exp_pos r).le

/-- `y / (1 + e⁻ʸ)` is `y` times the logistic function of `y`: the divisor is at least one, so both are the product with its
    inverse. -/
theorem div_eq_mul_logistic (y : EReal) : Ideal.div y (1 + Ideal.exp (-y)) = y * Ideal.logistic y := by
  have h : (1 : EReal) + Ideal.exp (-y) ≠ 0 := fun h0 => by
    have : (1 : EReal) ≤ 1 + Ideal.exp (-y) := le_add_of_nonneg_right (exp_nonneg _)
    rw [h0] at this
    exact absurd this (not_le.mpr zero_lt_one)
  rw [Ideal.logistic, Ideal.div, Ideal.div, if_neg h, if_neg h, one_mul]

theorem result_apply (x w : FVec Ideal S2048x2048 .f32) (i : S2048x2048.Idx) :
    result x w i = product x w i * Ideal.logistic (product x w i) := by
  rw [← div_eq_mul_logistic]
  show Ideal.div (product x w i) (Ideal.ofBits .f32 0x3F800000#32 + Ideal.exp (-(product x w i))) = _
  rw [Ideal.ofBits_one_f32]

/-! ## A block of rows of the result -/

open Cert.KernelIdeal.Exchange (row part)

/-- A sum over all 2048 columns, taken by blocks of 512. -/
theorem sum_by_blocks (f : Fin 2048 → EReal) : ∑ k, f k = ∑ e : Fin 4, ∑ k : Fin 512, f (row e k) := by
  rw [← Fintype.sum_prod_type' (f := fun (e : Fin 4) (k : Fin 512) => f (row e k)), ← Equiv.sum_comp (finProdFinEquiv (m := 4) (n := 512))]
  refine Finset.sum_congr rfl fun p _ => congrArg f (Fin.ext ?_)
  show p.2.val + 512 * p.1.val = 512 * p.1.val + p.2.val
  omega

theorem block_columns (v : S2048x2048.Idx → EReal) (c : Fin 4) (p : Fin 2048) (k : Fin 512) :
    (Layout.block ⟨2, ![2048, 512]⟩ ⟨2, ![2048, 2048]⟩ 1 4 c v) (ix2 p k) = v (ix2 p (row c k)) := by
  rw [Layout.block_apply]
  refine congrArg v (funext fun a => Fin.ext ?_)
  match a with
  | ⟨0, _⟩ => rfl
  | ⟨1, _⟩ => show c.val * 512 + k.val = 512 * c.val + k.val; omega

theorem block_rows (v : S2048x2048.Idx → EReal) (c : Fin 4) (r : Fin 512) (j : Fin 2048) :
    (Layout.block ⟨2, ![512, 2048]⟩ ⟨2, ![2048, 2048]⟩ 0 4 c v) (ix2 r j) = v (ix2 (row c r) j) := by
  rw [Layout.block_apply]
  refine congrArg v (funext fun a => Fin.ext ?_)
  match a with
  | ⟨0, _⟩ => show c.val * 512 + r.val = 512 * c.val + r.val; omega
  | ⟨1, _⟩ => rfl

/-- If the devices hold the column blocks of `x` and copies of `w`, what device `c` stores is its block of rows of the
    reference's result. -/
theorem stored_block (m : (ℓ : Loc KernelIdeal.nD KernelIdeal.τ KernelIdeal.sig) → Buf (Elt Ideal) ℓ) (ρ : Dev KernelIdeal.nD → PrngReg)
    (x w : FVec Ideal S2048x2048 .f32)
    (hx : ∀ e : Dev KernelIdeal.nD, m ((e.tc : Thread KernelIdeal.nD KernelIdeal.τ).loc KernelIdeal.main_arg0)
      = Layout.block ⟨2, ![2048, 512]⟩ ⟨2, ![2048, 2048]⟩ 1 4 e x)
    (hw : ∀ e : Dev KernelIdeal.nD, m ((e.tc : Thread KernelIdeal.nD KernelIdeal.τ).loc KernelIdeal.main_arg1) = w)
    (c : Dev KernelIdeal.nD) :
    KernelIdeal.Exchange.stored m ρ c = Layout.block ⟨2, ![512, 2048]⟩ ⟨2, ![2048, 2048]⟩ 0 4 c (result x w) := by
  funext i
  obtain ⟨r, j, rfl⟩ : ∃ (r : Fin 512) (j : Fin 2048), i = ix2 r j := ⟨i 0, i 1, eq_ix2 i⟩
  have hy : (∑ e, part m c e r j) = product x w (ix2 (row c r) j) := by
    rw [product_apply, sum_by_blocks]
    refine Finset.sum_congr rfl fun e _ => Finset.sum_congr rfl fun k _ => ?_
    have h1 : KernelIdeal.Exchange.xHere m e (ix2 (row c r) k) = x (ix2 (row c r) (row e k)) := (congrFun (hx e) _).trans (block_columns x e _ k)
    have h2 : KernelIdeal.Exchange.wHere m c = w := hw c
    rw [h1, h2]
  rw [KernelIdeal.Exchange.stored_apply, block_rows, result_apply, hy]

end Cert.ReferenceIdeal.Whole

end
-- ==== Proof.Bound.lean ====
/-
# How large an inner product over four blocks can be

The terms `f e k · g e k` of an inner product are cut into four blocks. If each block's sum of squares of `f`, times the sum
of all squares of `g`, is at most 900, then the inner product lies between −60 and 60: over the reals this is the
Cauchy–Schwarz inequality, `(Σ f g)² ≤ Σ f² · Σ g² ≤ 4 · 900`. An infinity among the terms is harmless: its square is
infinite, so the bound forces everything it is multiplied with to be zero.
-/
module

public import Mathlib.Data.EReal.Inv
public import Mathlib.Algebra.Order.BigOperators.Ring.Finset
public import Mathlib.Algebra.Order.BigOperators.Group.Finset
public import Mathlib.Data.Fintype.BigOperators

@[expose] public section

noncomputable section

namespace Cert.Bound

open scoped BigOperators

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- If the square is finite, so is the number. -/
theorem real_of_square {x : EReal} (h : x * x ≠ ⊤) : ∃ r : ℝ, x = r := by
  induction x using EReal.rec with
  | bot => exact absurd EReal.bot_mul_bot h
  | top => exact absurd EReal.top_mul_top h
  | coe r => exact ⟨r, rfl⟩

theorem term_le {ι : Type} [Fintype ι] {f : ι → EReal} (h : ∀ i, 0 ≤ f i) (i : ι) : f i ≤ ∑ j, f j :=
  Finset.single_le_sum (fun j _ => h j) (Finset.mem_univ i)

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The bound over the reals. -/
theorem real_bound {n : Nat} (f g : Fin 4 → Fin n → ℝ)
    (h : ∀ e, (∑ k, f e k * f e k) * (∑ e', ∑ k, g e' k * g e' k) ≤ 900) : |∑ e, ∑ k, f e k * g e k| ≤ 60 := by
  have hcs : (∑ e, ∑ k, f e k * g e k) ^ 2 ≤ (∑ e, ∑ k, f e k * f e k) * (∑ e, ∑ k, g e k * g e k) := by
    have := Finset.sum_mul_sq_le_sq_mul_sq (Finset.univ : Finset (Fin 4 × Fin n)) (fun p => f p.1 p.2) (fun p => g p.1 p.2)
    simpa only [Fintype.sum_prod_type, pow_two] using this
  have hall : (∑ e, ∑ k, f e k * f e k) * (∑ e, ∑ k, g e k * g e k) ≤ 60 ^ 2 := by
    rw [Finset.sum_mul]
    refine (Finset.sum_le_card_nsmul _ _ 900 fun e _ => h e).trans ?_
    norm_num
  exact abs_le_of_sq_le_sq (hcs.trans hall) (by norm_num)

/-- The bound over the extended reals. -/
theorem inner_bound {n : Nat} (f g : Fin 4 → Fin n → EReal)
    (h : ∀ e, (∑ k, f e k * f e k) * (∑ e', ∑ k, g e' k * g e' k) ≤ 900) :
    ((-60 : ℝ) : EReal) ≤ ∑ e, ∑ k, f e k * g e k ∧ ∑ e, ∑ k, f e k * g e k ≤ ((60 : ℝ) : EReal) := by
  have hzero : (∑ e, ∑ k, f e k * g e k) = 0 →
      ((-60 : ℝ) : EReal) ≤ ∑ e, ∑ k, f e k * g e k ∧ ∑ e, ∑ k, f e k * g e k ≤ ((60 : ℝ) : EReal) := fun h0 => by
    rw [h0, ← EReal.coe_zero]
    exact ⟨EReal.coe_le_coe (by norm_num), EReal.coe_le_coe (by norm_num)⟩
  have hg0 : ∀ e, 0 ≤ ∑ k, g e k * g e k := fun e => Finset.sum_nonneg fun k _ => square_nonneg _
  have hf0 : ∀ e, 0 ≤ ∑ k, f e k * f e k := fun e => Finset.sum_nonneg fun k _ => square_nonneg _
  have hG0 : 0 ≤ ∑ e, ∑ k, g e k * g e k := Finset.sum_nonneg fun e _ => hg0 e
  have hgle : ∀ e k, g e k * g e k ≤ ∑ e, ∑ k, g e k * g e k := fun e k =>
    (term_le (fun k => square_nonneg (g e k)) k).trans (term_le hg0 e)
  have hfle : ∀ e k, f e k * f e k ≤ ∑ k, f e k * f e k := fun e k => term_le (fun k => square_nonneg (f e k)) k
  have htop : ¬ ((⊤ : EReal) ≤ 900) := fun h1 => by
    have h2 : ((900 : ℝ) : EReal) = ⊤ := top_le_iff.mp h1
    exact EReal.coe_ne_top _ h2
  by_cases hf : ∀ e k, f e k = 0
  · exact hzero (Finset.sum_eq_zero fun e _ => Finset.sum_eq_zero fun k _ => by rw [hf, zero_mul])
  by_cases hg : ∀ e k, g e k = 0
  · exact hzero (Finset.sum_eq_zero fun e _ => Finset.sum_eq_zero fun k _ => by rw [hg, mul_zero])
  push Not at hf hg
  obtain ⟨a, b, hab⟩ := hf
  obtain ⟨a', b', hab'⟩ := hg
  have hpos : ∀ x : EReal, x ≠ 0 → 0 < x * x := fun x hx => lt_of_le_of_ne (square_nonneg x) (Ne.symm (mul_ne_zero hx hx))
  have hGpos : 0 < ∑ e, ∑ k, g e k * g e k := (hpos _ hab').trans_le (hgle a' b')
  have hGtop : (∑ e, ∑ k, g e k * g e k) ≠ ⊤ := fun ht => by
    have h1 := h a
    rw [ht, EReal.mul_top_of_pos ((hpos _ hab).trans_le (hfle a b))] at h1
    exact htop h1
  have hFtop : ∀ e, (∑ k, f e k * f e k) ≠ ⊤ := fun e ht => by
    have h1 := h e
    rw [ht, EReal.top_mul_of_pos hGpos] at h1
    exact htop h1
  choose F hF using fun e k => real_of_square (x := f e k) fun ht => hFtop e (top_le_iff.mp (ht ▸ hfle e k))
  choose G hG using fun e k => real_of_square (x := g e k) fun ht => hGtop (top_le_iff.mp (ht ▸ hgle e k))
  have hsum : ∀ u v : Fin 4 → Fin n → ℝ, ∑ e, ∑ k, (u e k : EReal) * (v e k : EReal) = ((∑ e, ∑ k, u e k * v e k : ℝ) : EReal) := fun u v => by
    rw [coe_sum]
    exact Finset.sum_congr rfl fun e _ => by rw [coe_sum]; exact Finset.sum_congr rfl fun k _ => (EReal.coe_mul _ _).symm
  have hrow : ∀ e, ∑ k, (F e k : EReal) * (F e k : EReal) = ((∑ k, F e k * F e k : ℝ) : EReal) := fun e => by
    rw [coe_sum]
    exact Finset.sum_congr rfl fun k _ => (EReal.coe_mul _ _).symm
  simp only [hF, hG] at h ⊢
  have hb := abs_le.mp (real_bound F G fun e => by
    have h1 := h e
    rw [hrow, hsum, ← EReal.coe_mul] at h1
    exact EReal.coe_le_coe_iff.mp h1)
  rw [hsum]
  exact ⟨EReal.coe_le_coe hb.1, EReal.coe_le_coe hb.2⟩

end Cert.Bound

end
-- ==== Proof.Clipped.lean ====
/-
# The reference with its guard against overflow

The same line of array operations with the product clipped to [−60, 60] inside the exponential. Where no entry of the
product leaves that range it is the plain reference, which is what `clipped_eq` says; `held_product` gets that from the sums
of squares every device's precondition bounds, through Proof/Bound.lean.
-/
module

public import proofs.«01_k».proof.Proof.Reference
public import proofs.«01_k».proof.Proof.Bound
public import proofs.«01_k».proof.Proof.Gen.ClippedIdeal
public import proofs.«01_k».proof.Proof.Gen.Pre_within_clip_KernelIdeal
public import proofs.«01_k».proof.Proof.Gen.Pre_within_clip_ClippedIdeal
public import Idealize.ShloMosaic.Lib.StableHlo.Run
public import Idealize.ShloMosaic.Lib.Layout
public import Idealize.ShloMosaic.Lib.Pointwise.Reduce

@[expose] public section

set_option maxRecDepth 16384

noncomputable section

namespace Cert.ClippedIdeal.Whole

open Cert.ClippedIdeal Cert.ClippedIdeal.Gen
open Idealize.ShloMosaic hiding ix2 eq_ix2
open Idealize.ShloMosaic.TcCoe Idealize.ShloMosaic.StableHlo Idealize.SL.Sem
open Idealize.ShloMosaic.ValueIdx
open scoped BigOperators

section Run

variable {F : FTy → Type} [FloatOps F]

abbrev product (x w : FVec F S2048x2048 .f32) : FVec F S2048x2048 .f32 :=
  Host.dotGeneral dot_S2048x2048_S2048x2048_S2048x2048_1_0_0_1_n_n none x w

/-- One number at every entry. -/
abbrev everywhere (b : BitVec 32) : FVec F S2048x2048 .f32 :=
  broadcastInDim S2048x2048 ![] Gen.bcast_S_S2048x2048 (constant S_ .f32 b : FVec F S_ .f32)

/-- The result from the two arguments. -/
abbrev result (x w : FVec F S2048x2048 .f32) : FVec F S2048x2048 .f32 :=
  Host.divf (product x w) (addf (everywhere 0x3F800000#32)
    (Host.exp (Host.negf (minimumf (everywhere 0x42700000#32) (maximumf (everywhere 0xC2700000#32) (product x w))))))

abbrev steps : List (HloOp τ sig (Elt F)) :=
  [ binary main_arg0 main_arg1 main_v0 (fun l r => Host.dotGeneral dot_S2048x2048_S2048x2048_S2048x2048_1_0_0_1_n_n none l r),
    nullary main_cst (constant S_ .f32 0xC2700000#32),
    nullary main_cst_0 (constant S_ .f32 0x42700000#32),
    unary main_cst main_call0_v0 id,
    unary main_call0_v0 main_call0_v1 (broadcastInDim S2048x2048 ![] Gen.bcast_S_S2048x2048),
    binary main_call0_v1 main_v0 main_call0_v2 maximumf,
    unary main_cst_0 main_call0_v3 id,
    unary main_call0_v3 main_call0_v4 (broadcastInDim S2048x2048 ![] Gen.bcast_S_S2048x2048),
    binary main_call0_v4 main_call0_v2 main_v1 minimumf,
    unary main_v1 main_v2 Host.negf,
    unary main_v2 main_v3 Host.exp,
    nullary main_cst_1 (constant S_ .f32 0x3F800000#32),
    unary main_cst_1 main_v4 (broadcastInDim S2048x2048 ![] Gen.bcast_S_S2048x2048),
    binary main_v4 main_v3 main_v5 addf,
    binary main_v0 main_v5 main_v6 Host.divf ]

theorem main_steps (c : Dev nD) : main (F := F) c = seq steps := rfl

theorem result_after (V : Valuation τ sig (Elt F)) :
    after steps V (main_v6 : DevRef τ sig) = result (V (main_arg0 : DevRef τ sig)) (V (main_arg1 : DevRef τ sig)) := by
  after_results
  rfl
theorem x_after (V : Valuation τ sig (Elt F)) : after steps V (main_arg0 : DevRef τ sig) = V (main_arg0 : DevRef τ sig) := by after_results
theorem w_after (V : Valuation τ sig (Elt F)) : after steps V (main_arg1 : DevRef τ sig) = V (main_arg1 : DevRef τ sig) := by after_results

theorem no_scoped_refs : (Finset.univ.filter fun b : Ref sig .tc => b.isScoped) = ∅ := by decide
theorem no_scoped_sems : (Finset.univ.filter fun sm : SemLoc sig => sm.isScoped .tc) = ∅ := by decide

theorem steps_local : (steps : List (HloOp τ sig (Elt F))).Forall fun op => op.bufs ⊆ tcRefs τ sig :=
  ⟨binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., binary_bufs_sub ..⟩

/-- The run: it ends, with its result computed from the arguments, which it leaves as they were. -/
theorem clipped_runs (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6)
            = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (result_after _), (h c main_arg0).trans (x_after _), (h c main_arg1).trans (w_after _)⟩)
    (run_seq no_scoped_refs no_scoped_sems defs main (fun _ => steps) main_steps (fun _ => steps_local) m ρ)

end Run

/-! ## Where the clip does nothing -/

theorem sixty : Ideal.ofBits .f32 0x42700000#32 = ((60 : ℝ) : EReal) := by
  simp [Ideal.ofBits, Ideal.ieee, -EReal.coe_mul]; norm_num

theorem minus_sixty : Ideal.ofBits .f32 0xC2700000#32 = ((-60 : ℝ) : EReal) := by
  simp [Ideal.ofBits, Ideal.ieee, -EReal.coe_mul, -EReal.coe_neg]; norm_num

theorem zero_bits : Ideal.ofBits .f32 0x00000000#32 = 0 := by simp [Ideal.ofBits, Ideal.ieee]

theorem nine_hundred : Ideal.ofBits .f32 0x44610000#32 = 900 := by
  rw [show (900 : EReal) = ((900 : ℝ) : EReal) by norm_cast]
  simp [Ideal.ofBits, Ideal.ieee, -EReal.coe_mul]; norm_num

/-- If every entry of the product is between −60 and 60, the clipped reference is the plain one. -/
theorem clipped_eq (x w : FVec Ideal S2048x2048 .f32)
    (h : ∀ i, ((-60 : ℝ) : EReal) ≤ ReferenceIdeal.Whole.product x w i ∧ ReferenceIdeal.Whole.product x w i ≤ ((60 : ℝ) : EReal)) :
    result x w = ReferenceIdeal.Whole.result x w := by
  funext i
  show Ideal.div (product x w i) (Ideal.ofBits .f32 0x3F800000#32
      + Ideal.exp (-(min (Ideal.ofBits .f32 0x42700000#32) (max (Ideal.ofBits .f32 0xC2700000#32) (ReferenceIdeal.Whole.product x w i))))) = _
  rw [sixty, minus_sixty, max_eq_right (h i).1, min_eq_right (h i).2]
  rfl

/-! ## What the precondition says -/

open Cert.KernelIdeal.Exchange (row)

/-- The host's sum along a row, at one entry. -/
theorem row_sum (v : FVec Ideal Pre_within_clip_KernelIdeal.S2048x512 .f32) (i : Pre_within_clip_KernelIdeal.S2048.Idx)
    (p : Fin 2048) (hi : (i 0).val = p.val) :
    Ideal.hostReduceAdd Pre_within_clip_KernelIdeal.Gen.reducesTo_S2048x512_S2048_d1 v (Ideal.ofBits .f32 0x00000000#32) i = ∑ k : Fin 512, v (ix2 p k) := by
  refine (Ideal.hostReduceAdd_r2_a1 _ v _ i).trans ?_
  rw [zero_bits, zero_add]
  exact Finset.sum_congr rfl fun k _ => congrArg v (congrArg (fun q : Fin 2048 => (ix2 q k : Pre_within_clip_KernelIdeal.S2048x512.Idx)) (Fin.ext hi))

/-- The host's sum along a column, at one entry. -/
theorem column_sum (v : FVec Ideal Pre_within_clip_KernelIdeal.S2048x2048 .f32) (i : Pre_within_clip_KernelIdeal.S2048.Idx)
    (j : Fin 2048) (hi : (i 0).val = j.val) :
    Ideal.hostReduceAdd Pre_within_clip_KernelIdeal.Gen.reducesTo_S2048x2048_S2048_d0 v (Ideal.ofBits .f32 0x00000000#32) i = ∑ k : Fin 2048, v (ix2 k j) := by
  refine (Ideal.hostReduceAdd_r2_a0 _ v _ i).trans ?_
  rw [zero_bits, zero_add]
  exact Finset.sum_congr rfl fun k _ => congrArg v (congrArg (fun q : Fin 2048 => (ix2 k q : Pre_within_clip_KernelIdeal.S2048x2048.Idx)) (Fin.ext hi))

/-- The precondition at one entry: the sum of squares of a row of the device's columns, times that of a column of `w`, is at
    most 900. -/
theorem squares_le (x : FVec Ideal Pre_within_clip_KernelIdeal.S2048x512 .f32) (w : FVec Ideal Pre_within_clip_KernelIdeal.S2048x2048 .f32)
    (h : Pre_within_clip_KernelIdeal.fn (F := Ideal) x w = fun _ => 1#1) (p j : Fin 2048) :
    (∑ k : Fin 512, x (ix2 p k) * x (ix2 p k)) * (∑ k : Fin 2048, w (ix2 k j) * w (ix2 k j)) ≤ 900 := by
  have h1 := congrFun h (ix2 p j)
  change Ideal.cmp .ole (Ideal.hostReduceAdd _ (mulf x x) (Ideal.ofBits .f32 0x00000000#32) _ * Ideal.hostReduceAdd _ (mulf w w) (Ideal.ofBits .f32 0x00000000#32) _)
    (Ideal.ofBits .f32 0x44610000#32) = 1#1 at h1
  rw [row_sum _ _ p rfl, column_sum _ _ j rfl, nine_hundred] at h1
  exact of_decide_eq_true (BitVec.ofBool_eq_iff_eq.mp (h1 : _ = BitVec.ofBool true))

/-- If the devices hold the column blocks of `x` and copies of `w`, and each meets the precondition, no entry of the product
    leaves [−60, 60]. -/
theorem held_product (x w : FVec Ideal S2048x2048 .f32)
    (h : ∀ e : Fin 4, Pre_within_clip_KernelIdeal.fn (F := Ideal) (Layout.block ⟨2, ![2048, 512]⟩ ⟨2, ![2048, 2048]⟩ 1 4 e x) w = fun _ => 1#1)
    (i : S2048x2048.Idx) :
    ((-60 : ℝ) : EReal) ≤ ReferenceIdeal.Whole.product x w i ∧ ReferenceIdeal.Whole.product x w i ≤ ((60 : ℝ) : EReal) := by
  obtain ⟨p, j, rfl⟩ : ∃ p j : Fin 2048, i = ix2 p j := ⟨i 0, i 1, eq_ix2 i⟩
  rw [ReferenceIdeal.Whole.product_apply, ReferenceIdeal.Whole.sum_by_blocks]
  refine Bound.inner_bound (fun e k => x (ix2 p (row e k))) (fun e k => w (ix2 (row e k) j)) fun e => ?_
  have h1 := squares_le _ w (h e) p j
  rw [ReferenceIdeal.Whole.sum_by_blocks] at h1
  simpa only [ReferenceIdeal.Whole.block_columns] using h1

end Cert.ClippedIdeal.Whole

end
-- ==== Proof.lean ====
/-
# The certificate's claims

A matrix product whose columns of `x` are spread over four devices, each of which ends with its own rows of the result,
passed through `y · logistic y`. The claims, one theorem each:

* the frames of the kernel as printed and of the kernel read at the ideal values, from the same argument about the
  exchange (Proof/Exchange.lean, Body.lean, Start.lean, and the same three over the printed program in Proof/Plain);
* the frame of the reference and of the reference with a clip, each a straight line of array operations;
* that reading the kernel at the ideal values changed none of its operations;
* that the kernel's rows are the reference's, in exact arithmetic, for every argument (Proof/Value.lean, Reference.lean);
* that they are the clipped reference's too, where sums of squares keep the product inside the clip's range (Proof/Bound.lean,
  Clipped.lean).
-/
module

public import proofs.«01_k».proof.Defs
public import proofs.«01_k».proof.Proof.Plain.Start
public import proofs.«01_k».proof.Proof.Start
public import proofs.«01_k».proof.Proof.Value
public import proofs.«01_k».proof.Proof.Reference
public import proofs.«01_k».proof.Proof.Clipped
public import proofs.«01_k».proof.Proof.Gen.Kernel.Frame
public import proofs.«01_k».proof.Proof.Gen.KernelIdeal.Frame
public import proofs.«01_k».proof.Proof.Gen.ReferenceIdeal
public import proofs.«01_k».proof.Proof.Gen.ClippedIdeal
public import proofs.«01_k».proof.Proof.Gen.Pre_within_clip_KernelIdeal
public import proofs.«01_k».proof.Proof.Gen.Pre_within_clip_ClippedIdeal
public import Idealize.ShloMosaic.Lib.Quiescent

@[expose] public section

noncomputable section

namespace Cert.Proof

open Idealize.ShloMosaic Idealize.SL.Sem

/-- The kernel as printed runs, keeps its arguments and leaves every counter at zero. -/
theorem kernel_frame : Cert.quiescent_Kernel := fun m ρ _ =>
  (θ_run Cert.Kernel.defs _ _).mono (fun _ h => ⟨fun c => (h.1 c).2, h.2⟩) (Cert.Kernel.Exchange.exchange_ends (F := Bits) m ρ)

/-- So does the kernel at the ideal values. -/
theorem ideal_frame : Cert.quiescent_KernelIdeal := fun m ρ _ =>
  (θ_run Cert.KernelIdeal.defs _ _).mono (fun _ h => ⟨fun c => (h.1 c).2, h.2⟩) (Cert.KernelIdeal.Exchange.exchange_ends (F := Ideal) m ρ)

/-- So does the reference, which has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Whole.reference_runs (F := Ideal) m ρ)

/-- In exact arithmetic each device's rows are its block of the reference's result: the kernel's run leaves the result array
    as stored, and what is stored is that block. -/
theorem value : Cert.algebraic_KernelIdeal_ReferenceIdeal := fun m ρ m' ρ' _ hag =>
  ⟨_, (θ_run Cert.KernelIdeal.defs _ _).mono (fun _ h c => ⟨((h.1 c).1.trans (Cert.KernelIdeal.Exchange.left_out m ρ c)).trans
        (Cert.ReferenceIdeal.Whole.stored_block m ρ _ _ (fun e => (hag e).1) (fun e => (hag e).2) c), (h.1 c).2⟩)
      (Cert.KernelIdeal.Exchange.exchange_ends (F := Ideal) m ρ),
    (θ_run Cert.ReferenceIdeal.defs _ _).mono (fun _ h => h 0) (Cert.ReferenceIdeal.Whole.reference_runs (F := Ideal) m' ρ')⟩

/-- The kernel's frame again, for the arguments the clipped reference is compared on. -/
theorem ideal_frame_within : Cert.quiescent_KernelIdeal_pre_within_clip_KernelIdeal := fun m ρ _ => ideal_frame m ρ trivial

/-- The frame of the clipped reference. -/
theorem clipped_frame : Cert.quiescent_ClippedIdeal := fun m ρ _ =>
  (θ_run Cert.ClippedIdeal.defs _ _).mono (fun r h => ⟨fun c => (h c).2, sem_eq_zero_of_no_sems (by decide) r.2⟩)
    (Cert.ClippedIdeal.Whole.clipped_runs (F := Ideal) m ρ)

theorem clipped_frame_within : Cert.quiescent_ClippedIdeal_pre_within_clip_ClippedIdeal := fun m ρ _ => clipped_frame m ρ trivial

/-- Where the precondition holds of every device, the kernel's rows are the clipped reference's too. -/
theorem clipped_value : Cert.algebraic_KernelIdeal_ClippedIdeal_pre_within_clip_KernelIdeal := fun m ρ m' ρ' hpre hag =>
  ⟨_, (θ_run Cert.KernelIdeal.defs _ _).mono (fun _ h c => ⟨(((h.1 c).1.trans (Cert.KernelIdeal.Exchange.left_out m ρ c)).trans
        (Cert.ReferenceIdeal.Whole.stored_block m ρ _ _ (fun e => (hag e).1) (fun e => (hag e).2) c)).trans
        (congrArg (Layout.block ⟨2, ![512, 2048]⟩ ⟨2, ![2048, 2048]⟩ 0 4 c) (Cert.ClippedIdeal.Whole.clipped_eq _ _
          (Cert.ClippedIdeal.Whole.held_product _ _ fun e => (hag e).1 ▸ (hag e).2 ▸ hpre e)).symm), (h.1 c).2⟩)
      (Cert.KernelIdeal.Exchange.exchange_ends (F := Ideal) m ρ),
    (θ_run Cert.ClippedIdeal.defs _ _).mono (fun _ h => h 0) (Cert.ClippedIdeal.Whole.clipped_runs (F := Ideal) m' ρ')⟩

theorem claim : Cert.Claim := ⟨Cert.Kernel.Gen.facts, Cert.KernelIdeal.Gen.facts, Cert.ReferenceIdeal.Gen.facts,
  Cert.ClippedIdeal.Gen.facts, Cert.Pre_within_clip_KernelIdeal.Gen.facts, Cert.Pre_within_clip_ClippedIdeal.Gen.facts,
  kernel_frame, ideal_frame, ideal_frame_within, reference_frame, clipped_frame, clipped_frame_within, trivial, value, clipped_value⟩

end Cert.Proof

end
